-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)) (v5 : (c : Dev Cert.KernelIdeal.nD) → Buf (Elt Ideal) ((c.tc : Thread Cert.KernelIdeal.nD Cert.KernelIdeal.τ).loc Cert.KernelIdeal.main_v16_5)) (v6 : (c : Dev Cert.KernelIdeal.nD) → Buf (Elt Ideal) ((c.tc : Thread Cert.KernelIdeal.nD Cert.KernelIdeal.τ).loc Cert.KernelIdeal.main_v16_6)) (v7 : (c : Dev Cert.KernelIdeal.nD) → Buf (Elt Ideal) ((c.tc : Thread Cert.KernelIdeal.nD Cert.KernelIdeal.τ).loc Cert.KernelIdeal.main_v16_7)) (v8 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_v16_5) = v5 c
          ∧ r.2.mem ((c.tc : Thread Cert.KernelIdeal.nD Cert.KernelIdeal.τ).loc Cert.KernelIdeal.main_v16_6) = v6 c
          ∧ r.2.mem ((c.tc : Thread Cert.KernelIdeal.nD Cert.KernelIdeal.τ).loc Cert.KernelIdeal.main_v16_7) = v7 c
          ∧ r.2.mem ((c.tc : Thread Cert.KernelIdeal.nD Cert.KernelIdeal.τ).loc Cert.KernelIdeal.main_v19) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_v21) = v5 c
          ∧ r.2.mem ((c.tc : Thread Cert.ReferenceIdeal.nD Cert.ReferenceIdeal.τ).loc Cert.ReferenceIdeal.main_v28) = v6 c
          ∧ r.2.mem ((c.tc : Thread Cert.ReferenceIdeal.nD Cert.ReferenceIdeal.τ).loc Cert.ReferenceIdeal.main_v29) = v7 c
          ∧ r.2.mem ((c.tc : Thread Cert.ReferenceIdeal.nD Cert.ReferenceIdeal.τ).loc Cert.ReferenceIdeal.main_v27) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)) (v2 : (c : Dev Cert.Kernel2Ideal.nD) → Buf (Elt Ideal) ((c.tc : Thread Cert.Kernel2Ideal.nD Cert.Kernel2Ideal.τ).loc Cert.Kernel2Ideal.main_v9_2)) (v3 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_v9_2) = v2 c
          ∧ r.2.mem ((c.tc : Thread Cert.Kernel2Ideal.nD Cert.Kernel2Ideal.τ).loc Cert.Kernel2Ideal.main_v12) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v16)) (v1 : (c : Dev Cert.Kernel5Ideal.nD) → Buf (Elt Ideal) ((c.tc : Thread Cert.Kernel5Ideal.nD Cert.Kernel5Ideal.τ).loc Cert.Kernel5Ideal.main_v15_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v17)) (v1 : (c : Dev Cert.Kernel6Ideal.nD) → Buf (Elt Ideal) ((c.tc : Thread Cert.Kernel6Ideal.nD Cert.Kernel6Ideal.τ).loc Cert.Kernel6Ideal.main_v18)) (v2 : (c : Dev Cert.Kernel6Ideal.nD) → Buf (Elt Ideal) ((c.tc : Thread Cert.Kernel6Ideal.nD Cert.Kernel6Ideal.τ).loc Cert.Kernel6Ideal.main_v16_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_v18) = v1 c
          ∧ r.2.mem ((c.tc : Thread Cert.Kernel6Ideal.nD Cert.Kernel6Ideal.τ).loc Cert.Kernel6Ideal.main_v16_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v120) = v0 c
          ∧ r.2.mem ((c.tc : Thread Cert.Reference6Ideal.nD Cert.Reference6Ideal.τ).loc Cert.Reference6Ideal.main_v121) = v1 c
          ∧ r.2.mem ((c.tc : Thread Cert.Reference6Ideal.nD Cert.Reference6Ideal.τ).loc Cert.Reference6Ideal.main_v101) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v29)) (v1 : (c : Dev Cert.Kernel7Ideal.nD) → Buf (Elt Ideal) ((c.tc : Thread Cert.Kernel7Ideal.nD Cert.Kernel7Ideal.τ).loc Cert.Kernel7Ideal.main_v30)) (v2 : (c : Dev Cert.Kernel7Ideal.nD) → Buf (Elt Ideal) ((c.tc : Thread Cert.Kernel7Ideal.nD Cert.Kernel7Ideal.τ).loc Cert.Kernel7Ideal.main_v28_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29) = v0 c
          ∧ r.2.mem ((c.tc : Thread Cert.Kernel7Ideal.nD Cert.Kernel7Ideal.τ).loc Cert.Kernel7Ideal.main_v30) = v1 c
          ∧ r.2.mem ((c.tc : Thread Cert.Kernel7Ideal.nD Cert.Kernel7Ideal.τ).loc Cert.Kernel7Ideal.main_v28_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v101) = v0 c
          ∧ r.2.mem ((c.tc : Thread Cert.Reference7Ideal.nD Cert.Reference7Ideal.τ).loc Cert.Reference7Ideal.main_v102) = v1 c
          ∧ r.2.mem ((c.tc : Thread Cert.Reference7Ideal.nD Cert.Reference7Ideal.τ).loc Cert.Reference7Ideal.main_v103) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8x2048x1024 : Shape := ⟨3, ![8, 2048, 1024]⟩
abbrev S1x1024 : Shape := ⟨2, ![1, 1024]⟩
abbrev S1x1024x7200 : Shape := ⟨3, ![1, 1024, 7200]⟩
abbrev S16384x1024 : Shape := ⟨2, ![16384, 1024]⟩
abbrev S1024 : Shape := ⟨1, ![1024]⟩
abbrev S1024x7200 : Shape := ⟨2, ![1024, 7200]⟩
abbrev S1024x3072 : Shape := ⟨2, ![1024, 3072]⟩
abbrev S1024x1024 : Shape := ⟨2, ![1024, 1024]⟩
abbrev S1024x16 : Shape := ⟨2, ![1024, 16]⟩
abbrev S1024x512 : Shape := ⟨2, ![1024, 512]⟩
abbrev S_ : Shape := ⟨0, ![]⟩
abbrev S1024x128 : Shape := ⟨2, ![1024, 128]⟩
abbrev S1024x7424 : Shape := ⟨2, ![1024, 7424]⟩
abbrev S16384x3072 : Shape := ⟨2, ![16384, 3072]⟩
abbrev S16384x512 : Shape := ⟨2, ![16384, 512]⟩
abbrev S16384x128 : Shape := ⟨2, ![16384, 128]⟩
abbrev S256x1024 : Shape := ⟨2, ![256, 1024]⟩
abbrev S256x3072 : Shape := ⟨2, ![256, 3072]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S8x2048x3072 : Shape := ⟨3, ![8, 2048, 3072]⟩
abbrev S8x3x3072 : Shape := ⟨3, ![8, 3, 3072]⟩
abbrev S1x8x3x3072 : Shape := ⟨4, ![1, 8, 3, 3072]⟩

abbrev nBuf : Space → Nat
  | .hbm => 34
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x7200, .f32⟩
  | .hbm, ⟨3, _⟩ => ⟨S16384x1024, .f32⟩
  | .hbm, ⟨4, _⟩ => ⟨S1024, .f32⟩
  | .hbm, ⟨5, _⟩ => ⟨S1024x7200, .f32⟩
  | .hbm, ⟨6, _⟩ => ⟨S1024x3072, .f32⟩
  | .hbm, ⟨7, _⟩ => ⟨S1024x1024, .f32⟩
  | .hbm, ⟨8, _⟩ => ⟨S1024x16, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1024, .f32⟩
  | .hbm, ⟨13, _⟩ => ⟨S1024x16, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x7424, .f32⟩
  | .hbm, ⟨21, _⟩ => ⟨S1024x7424, .bf16⟩
  | .hbm, ⟨22, _⟩ => ⟨S1x1024, .f32⟩
  | .hbm, ⟨23, _⟩ => ⟨S16384x3072, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x512, .f32⟩
  | .hbm, ⟨28, _⟩ => ⟨S16384x512, .f32⟩
  | .hbm, ⟨29, _⟩ => ⟨S16384x128, .f32⟩
  | .hbm, ⟨30, _⟩ => ⟨S16384x128, .f32⟩
  | .hbm, ⟨31, _⟩ => ⟨S8x2048x3072, .f32⟩
  | .hbm, ⟨32, _⟩ => ⟨S8x3x3072, .f32⟩
  | .hbm, ⟨33, _⟩ => ⟨S1x8x3x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7424, .bf16⟩
  | .local _ .vmem, ⟨4, _⟩ => ⟨S256x3072, .f32⟩
  | .local _ .vmem, ⟨5, _⟩ => ⟨S256x3072, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_c_0 : Ref sig .tc := ⟨.hbm, 17, rfl⟩
abbrev main_call1_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_v16_7 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7424 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x2048x1024 : Shape := ⟨3, ![8, 2048, 1024]⟩
abbrev S1x1024 : Shape := ⟨2, ![1, 1024]⟩
abbrev S1x1024x7200 : Shape := ⟨3, ![1, 1024, 7200]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x7200 : Shape := ⟨2, ![1024, 7200]⟩
abbrev S16384x7200 : Shape := ⟨2, ![16384, 7200]⟩
abbrev S16384x3072 : Shape := ⟨2, ![16384, 3072]⟩
abbrev S16384x16 : Shape := ⟨2, ![16384, 16]⟩
abbrev S16384x512 : Shape := ⟨2, ![16384, 512]⟩
abbrev S8x2048x3072 : Shape := ⟨3, ![8, 2048, 3072]⟩
abbrev S8x3x3072 : Shape := ⟨3, ![8, 3, 3072]⟩
abbrev S1x8x3x3072 : Shape := ⟨4, ![1, 8, 3, 3072]⟩
abbrev S16384x128 : Shape := ⟨2, ![16384, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x7200, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x7200, .f32⟩
  | .hbm, ⟨22, _⟩ => ⟨S16384x7200, .f32⟩
  | .hbm, ⟨23, _⟩ => ⟨S16384x3072, .f32⟩
  | .hbm, ⟨24, _⟩ => ⟨S16384x1024, .f32⟩
  | .hbm, ⟨25, _⟩ => ⟨S16384x16, .f32⟩
  | .hbm, ⟨26, _⟩ => ⟨S16384x512, .f32⟩
  | .hbm, ⟨27, _⟩ => ⟨S16384x512, .f32⟩
  | .hbm, ⟨28, _⟩ => ⟨S16384x1024, .f32⟩
  | .hbm, ⟨29, _⟩ => ⟨S16384x1024, .f32⟩
  | .hbm, ⟨30, _⟩ => ⟨S16384x16, .f32⟩
  | .hbm, ⟨31, _⟩ => ⟨S8x2048x3072, .f32⟩
  | .hbm, ⟨32, _⟩ => ⟨S8x3x3072, .f32⟩
  | .hbm, ⟨33, _⟩ => ⟨S1x8x3x3072, .f32⟩
  | .hbm, ⟨34, _⟩ => ⟨S_, .i32⟩
  | .hbm, ⟨35, _⟩ => ⟨S_, .f32⟩
  | .hbm, ⟨36, _⟩ => ⟨S16384x128, .f32⟩
  | .hbm, ⟨37, _⟩ => ⟨S_, .i32⟩
  | .hbm, ⟨38, _⟩ => ⟨S_, .f32⟩
  | .hbm, ⟨39, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_c_2 : Ref sig .tc := ⟨.hbm, 37, rfl⟩
abbrev main_call1_v0 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x5152 : Shape := ⟨3, ![1, 1024, 5152]⟩
abbrev S16384x1024 : Shape := ⟨2, ![16384, 1024]⟩
abbrev S1024 : Shape := ⟨1, ![1024]⟩
abbrev S1024x5152 : Shape := ⟨2, ![1024, 5152]⟩
abbrev S1024x5120 : Shape := ⟨2, ![1024, 5120]⟩
abbrev S1024x32 : Shape := ⟨2, ![1024, 32]⟩
abbrev S_ : Shape := ⟨0, ![]⟩
abbrev S1024x128 : Shape := ⟨2, ![1024, 128]⟩
abbrev S1024x5248 : Shape := ⟨2, ![1024, 5248]⟩
abbrev S16384x2048 : Shape := ⟨2, ![16384, 2048]⟩
abbrev S16384x3072 : Shape := ⟨2, ![16384, 3072]⟩
abbrev S16384x128 : Shape := ⟨2, ![16384, 128]⟩
abbrev S256x1024 : Shape := ⟨2, ![256, 1024]⟩
abbrev S256x2048 : Shape := ⟨2, ![256, 2048]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S8x2048x3072 : Shape := ⟨3, ![8, 2048, 3072]⟩
abbrev S8x3x3072 : Shape := ⟨3, ![8, 3, 3072]⟩
abbrev S1x8x3x3072 : Shape := ⟨4, ![1, 8, 3, 3072]⟩

abbrev nBuf : Space → Nat
  | .hbm => 20
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5152, .f32⟩
  | .hbm, ⟨3, _⟩ => ⟨S16384x1024, .f32⟩
  | .hbm, ⟨4, _⟩ => ⟨S1024, .f32⟩
  | .hbm, ⟨5, _⟩ => ⟨S1024x5152, .f32⟩
  | .hbm, ⟨6, _⟩ => ⟨S1024x5120, .f32⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x5248, .f32⟩
  | .hbm, ⟨12, _⟩ => ⟨S1024x5248, .bf16⟩
  | .hbm, ⟨13, _⟩ => ⟨S1x1024, .f32⟩
  | .hbm, ⟨14, _⟩ => ⟨S16384x2048, .f32⟩
  | .hbm, ⟨15, _⟩ => ⟨S16384x3072, .f32⟩
  | .hbm, ⟨16, _⟩ => ⟨S16384x128, .f32⟩
  | .hbm, ⟨17, _⟩ => ⟨S8x2048x3072, .f32⟩
  | .hbm, ⟨18, _⟩ => ⟨S8x3x3072, .f32⟩
  | .hbm, ⟨19, _⟩ => ⟨S1x8x3x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5248, .bf16⟩
  | .local _ .vmem, ⟨4, _⟩ => ⟨S256x2048, .f32⟩
  | .local _ .vmem, ⟨5, _⟩ => ⟨S256x2048, .f32⟩
  | .local _ .vmem, ⟨6, _⟩ => ⟨S256x3072, .f32⟩
  | .local _ .vmem, ⟨7, _⟩ => ⟨S256x3072, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x2048x1024 : Shape := ⟨3, ![8, 2048, 1024]⟩
abbrev S1x1024 : Shape := ⟨2, ![1, 1024]⟩
abbrev S1x1024x5152 : Shape := ⟨3, ![1, 1024, 5152]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5152 : Shape := ⟨2, ![1024, 5152]⟩
abbrev S16384x5152 : Shape := ⟨2, ![16384, 5152]⟩
abbrev S16384x2048 : Shape := ⟨2, ![16384, 2048]⟩
abbrev S16384x3072 : Shape := ⟨2, ![16384, 3072]⟩
abbrev S16384x32 : Shape := ⟨2, ![16384, 32]⟩
abbrev S16384x128 : Shape := ⟨2, ![16384, 128]⟩
abbrev S8x2048x3072 : Shape := ⟨3, ![8, 2048, 3072]⟩
abbrev S8x3x3072 : Shape := ⟨3, ![8, 3, 3072]⟩
abbrev S1x8x3x3072 : Shape := ⟨4, ![1, 8, 3, 3072]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5152, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x5152, .f32⟩
  | .hbm, ⟨22, _⟩ => ⟨S16384x5152, .f32⟩
  | .hbm, ⟨23, _⟩ => ⟨S16384x2048, .f32⟩
  | .hbm, ⟨24, _⟩ => ⟨S16384x3072, .f32⟩
  | .hbm, ⟨25, _⟩ => ⟨S16384x32, .f32⟩
  | .hbm, ⟨26, _⟩ => ⟨S_, .i32⟩
  | .hbm, ⟨27, _⟩ => ⟨S_, .f32⟩
  | .hbm, ⟨28, _⟩ => ⟨S16384x128, .f32⟩
  | .hbm, ⟨29, _⟩ => ⟨S8x2048x3072, .f32⟩
  | .hbm, ⟨30, _⟩ => ⟨S8x3x3072, .f32⟩
  | .hbm, ⟨31, _⟩ => ⟨S1x8x3x3072, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel3.lean ====
abbrev S16384x1024 : Shape := ⟨2, ![16384, 1024]⟩
abbrev S1x2048x1024 : Shape := ⟨3, ![1, 2048, 1024]⟩
abbrev S1x1024 : Shape := ⟨2, ![1, 1024]⟩
abbrev S8x2048x1024 : Shape := ⟨3, ![8, 2048, 1024]⟩
abbrev S2048x1024 : Shape := ⟨2, ![2048, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x2048x1024, .f32⟩
  | .hbm, ⟨3, _⟩ => ⟨S1x1024, .f32⟩
  | .hbm, ⟨4, _⟩ => ⟨S8x2048x1024, .f32⟩
  | .hbm, ⟨5, _⟩ => ⟨S2048x1024, .f32⟩
  | .hbm, ⟨6, _⟩ => ⟨S2048x1024, .bf16⟩
  | .hbm, ⟨7, _⟩ => ⟨S1024x1024, .bf16⟩
  | .hbm, ⟨8, _⟩ => ⟨S1024x1024, .bf16⟩
  | .hbm, ⟨9, _⟩ => ⟨S1024, .f32⟩
  | .hbm, ⟨10, _⟩ => ⟨S16384x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1x2048x1024 : Shape := ⟨3, ![1, 2048, 1024]⟩
abbrev S1x1024 : Shape := ⟨2, ![1, 1024]⟩
abbrev S8x2048x1024 : Shape := ⟨3, ![8, 2048, 1024]⟩
abbrev S16384x2048 : Shape := ⟨2, ![16384, 2048]⟩
abbrev S2048x1024 : Shape := ⟨2, ![2048, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x2048x1024, .f32⟩
  | .hbm, ⟨3, _⟩ => ⟨S1x1024, .f32⟩
  | .hbm, ⟨4, _⟩ => ⟨S8x2048x1024, .f32⟩
  | .hbm, ⟨5, _⟩ => ⟨S16384x2048, .f32⟩
  | .hbm, ⟨6, _⟩ => ⟨S2048x1024, .f32⟩
  | .hbm, ⟨7, _⟩ => ⟨S16384x1024, .f32⟩
  | .hbm, ⟨8, _⟩ => ⟨S16384x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel4.lean ====
abbrev S16384x2048 : Shape := ⟨2, ![16384, 2048]⟩
abbrev S1x2048x1024 : Shape := ⟨3, ![1, 2048, 1024]⟩
abbrev S1x1024 : Shape := ⟨2, ![1, 1024]⟩
abbrev S8x2048x1024 : Shape := ⟨3, ![8, 2048, 1024]⟩
abbrev S2048x1024 : Shape := ⟨2, ![2048, 1024]⟩
abbrev S1024 : Shape := ⟨1, ![1024]⟩
abbrev S16384x1024 : Shape := ⟨2, ![16384, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048x1024, .f32⟩
  | .hbm, ⟨2, _⟩ => ⟨S1x1024, .f32⟩
  | .hbm, ⟨3, _⟩ => ⟨S8x2048x1024, .f32⟩
  | .hbm, ⟨4, _⟩ => ⟨S2048x1024, .f32⟩
  | .hbm, ⟨5, _⟩ => ⟨S2048x1024, .bf16⟩
  | .hbm, ⟨6, _⟩ => ⟨S1024, .f32⟩
  | .hbm, ⟨7, _⟩ => ⟨S16384x1024, .f32⟩
  | .hbm, ⟨8, _⟩ => ⟨S1x1024, .f32⟩
  | .hbm, ⟨9, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x2048 : Shape := ⟨2, ![16384, 2048]⟩
abbrev S1x2048x1024 : Shape := ⟨3, ![1, 2048, 1024]⟩
abbrev S1x1024 : Shape := ⟨2, ![1, 1024]⟩
abbrev S8x2048x1024 : Shape := ⟨3, ![8, 2048, 1024]⟩
abbrev S2048x1024 : Shape := ⟨2, ![2048, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048x1024, .f32⟩
  | .hbm, ⟨2, _⟩ => ⟨S1x1024, .f32⟩
  | .hbm, ⟨3, _⟩ => ⟨S8x2048x1024, .f32⟩
  | .hbm, ⟨4, _⟩ => ⟨S2048x1024, .f32⟩
  | .hbm, ⟨5, _⟩ => ⟨S16384x1024, .f32⟩
  | .hbm, ⟨6, _⟩ => ⟨S16384x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S128x512 : Shape := ⟨2, ![128, 512]⟩
abbrev S128x1024 : Shape := ⟨2, ![128, 1024]⟩
abbrev S128x128 : Shape := ⟨2, ![128, 128]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x256 : Shape := ⟨2, ![1, 256]⟩
abbrev S128x4x128x256 : Shape := ⟨4, ![128, 4, 128, 256]⟩
abbrev S16x512 : Shape := ⟨2, ![16, 512]⟩
abbrev S512 : Shape := ⟨1, ![512]⟩
abbrev S256 : Shape := ⟨1, ![256]⟩
abbrev S128x8x128 : Shape := ⟨3, ![128, 8, 128]⟩
abbrev S128x4x256 : Shape := ⟨3, ![128, 4, 256]⟩
abbrev S128x1x128 : Shape := ⟨3, ![128, 1, 128]⟩
abbrev S_ : Shape := ⟨0, ![]⟩
abbrev S1 : Shape := ⟨1, ![1]⟩
abbrev S1x8x128 : Shape := ⟨3, ![1, 8, 128]⟩
abbrev S1x4x256 : Shape := ⟨3, ![1, 4, 256]⟩
abbrev S1x1x128 : Shape := ⟨3, ![1, 1, 128]⟩
abbrev S1x4x128x256 : Shape := ⟨4, ![1, 4, 128, 256]⟩
abbrev S1x128 : Shape := ⟨2, ![1, 128]⟩
abbrev S8x128 : Shape := ⟨2, ![8, 128]⟩
abbrev S8x512 : Shape := ⟨2, ![8, 512]⟩
abbrev S16x128 : Shape := ⟨2, ![16, 128]⟩
abbrev S128x16 : Shape := ⟨2, ![128, 16]⟩
abbrev S4x256 : Shape := ⟨2, ![4, 256]⟩
abbrev S128x1 : Shape := ⟨2, ![128, 1]⟩
abbrev S1x1x128x256 : Shape := ⟨4, ![1, 1, 128, 256]⟩
abbrev S128x256 : Shape := ⟨2, ![128, 256]⟩
abbrev S1x1x256 : Shape := ⟨3, ![1, 1, 256]⟩
abbrev S4 : Shape := ⟨1, ![4]⟩
abbrev S4x1 : Shape := ⟨2, ![4, 1]⟩

abbrev nBuf : Space → Nat
  | .hbm => 29
  | .vmem => 17
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S128x1024, .f32⟩
  | .hbm, ⟨4, _⟩ => ⟨S128x128, .f32⟩
  | .hbm, ⟨5, _⟩ => ⟨S1x128x4x128x256, .f32⟩
  | .hbm, ⟨6, _⟩ => ⟨S1x16x512, .f32⟩
  | .hbm, ⟨7, _⟩ => ⟨S1x512, .f32⟩
  | .hbm, ⟨8, _⟩ => ⟨S1x256, .f32⟩
  | .hbm, ⟨9, _⟩ => ⟨S128x4x128x256, .f32⟩
  | .hbm, ⟨10, _⟩ => ⟨S16x512, .f32⟩
  | .hbm, ⟨11, _⟩ => ⟨S512, .f32⟩
  | .hbm, ⟨12, _⟩ => ⟨S256, .f32⟩
  | .hbm, ⟨13, _⟩ => ⟨S128x1024, .f32⟩
  | .hbm, ⟨14, _⟩ => ⟨S128x8x128, .f32⟩
  | .hbm, ⟨15, _⟩ => ⟨S128x4x256, .f32⟩
  | .hbm, ⟨16, _⟩ => ⟨S128x4x256, .f32⟩
  | .hbm, ⟨17, _⟩ => ⟨S128x1x128, .f32⟩
  | .hbm, ⟨18, _⟩ => ⟨S_, .f32⟩
  | .hbm, ⟨19, _⟩ => ⟨S128x512, .f32⟩
  | .hbm, ⟨20, _⟩ => ⟨S_, .i32⟩
  | .hbm, ⟨21, _⟩ => ⟨S1, .i32⟩
  | .hbm, ⟨22, _⟩ => ⟨S128x512, .f32⟩
  | .hbm, ⟨23, _⟩ => ⟨S128x512, .bf16⟩
  | .hbm, ⟨24, _⟩ => ⟨S1x512, .f32⟩
  | .hbm, ⟨25, _⟩ => ⟨S1x256, .f32⟩
  | .hbm, ⟨26, _⟩ => ⟨S128x4x256, .f32⟩
  | .hbm, ⟨27, _⟩ => ⟨S128x4x128x256, .f32⟩
  | .hbm, ⟨28, _⟩ => ⟨S128x1024, .f32⟩
  | .local _ .vmem, ⟨0, _⟩ => ⟨S1x8x128, .f32⟩
  | .local _ .vmem, ⟨1, _⟩ => ⟨S1x8x128, .f32⟩
  | .local _ .vmem, ⟨2, _⟩ => ⟨S1x4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x256, .f32⟩
  | .local _ .vmem, ⟨6, _⟩ => ⟨S1x1x128, .f32⟩
  | .local _ .vmem, ⟨7, _⟩ => ⟨S1x1x128, .f32⟩
  | .local _ .vmem, ⟨8, _⟩ => ⟨S1x4x128x256, .f32⟩
  | .local _ .vmem, ⟨9, _⟩ => ⟨S1x4x128x256, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S1x4x256, .f32⟩
  | .local _ .vmem, ⟨14, _⟩ => ⟨S1x4x256, .f32⟩
  | .local _ .vmem, ⟨15, _⟩ => ⟨S1x4x128x256, .f32⟩
  | .local _ .vmem, ⟨16, _⟩ => ⟨S1x4x128x256, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S128x512 : Shape := ⟨2, ![128, 512]⟩
abbrev S128x1024 : Shape := ⟨2, ![128, 1024]⟩
abbrev S128x128 : Shape := ⟨2, ![128, 128]⟩
abbrev S1x128x4x128x256 : Shape := ⟨5, ![1, 128, 4, 128, 256]⟩
abbrev S1x16x512 : Shape := ⟨3, ![1, 16, 512]⟩
abbrev S1x512 : Shape := ⟨2, ![1, 512]⟩
abbrev S1x256 : Shape := ⟨2, ![1, 256]⟩
abbrev S128x16 : Shape := ⟨2, ![128, 16]⟩
abbrev S16x512 : Shape := ⟨2, ![16, 512]⟩
abbrev S512 : Shape := ⟨1, ![512]⟩
abbrev S_ : Shape := ⟨0, ![]⟩
abbrev S128x4x128 : Shape := ⟨3, ![128, 4, 128]⟩
abbrev S128x4x256 : Shape := ⟨3, ![128, 4, 256]⟩
abbrev S128x4x128x1 : Shape := ⟨4, ![128, 4, 128, 1]⟩
abbrev S128x4x128x256 : Shape := ⟨4, ![128, 4, 128, 256]⟩
abbrev S128x4x1x256 : Shape := ⟨4, ![128, 4, 1, 256]⟩
abbrev S256 : Shape := ⟨1, ![256]⟩
abbrev S128x4 : Shape := ⟨2, ![128, 4]⟩
abbrev S128x4x1 : Shape := ⟨3, ![128, 4, 1]⟩
abbrev S1x1x256 : Shape := ⟨3, ![1, 1, 256]⟩

abbrev nBuf : Space → Nat
  | .hbm => 83
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S128x1024, .f32⟩
  | .hbm, ⟨4, _⟩ => ⟨S128x128, .f32⟩
  | .hbm, ⟨5, _⟩ => ⟨S1x128x4x128x256, .f32⟩
  | .hbm, ⟨6, _⟩ => ⟨S1x16x512, .f32⟩
  | .hbm, ⟨7, _⟩ => ⟨S1x512, .f32⟩
  | .hbm, ⟨8, _⟩ => ⟨S1x256, .f32⟩
  | .hbm, ⟨9, _⟩ => ⟨S128x16, .f32⟩
  | .hbm, ⟨10, _⟩ => ⟨S16x512, .f32⟩
  | .hbm, ⟨11, _⟩ => ⟨S128x512, .f32⟩
  | .hbm, ⟨12, _⟩ => ⟨S512, .f32⟩
  | .hbm, ⟨13, _⟩ => ⟨S1x512, .f32⟩
  | .hbm, ⟨14, _⟩ => ⟨S128x512, .f32⟩
  | .hbm, ⟨15, _⟩ => ⟨S128x512, .f32⟩
  | .hbm, ⟨16, _⟩ => ⟨S128x512, .f32⟩
  | .hbm, ⟨17, _⟩ => ⟨S_, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S128x512, .i1⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S_, .f32⟩
  | .hbm, ⟨33, _⟩ => ⟨S128x512, .f32⟩
  | .hbm, ⟨34, _⟩ => ⟨S128x512, .f32⟩
  | .hbm, ⟨35, _⟩ => ⟨S128x512, .f32⟩
  | .hbm, ⟨36, _⟩ => ⟨S128x4x128, .f32⟩
  | .hbm, ⟨37, _⟩ => ⟨S128x4x128, .f32⟩
  | .hbm, ⟨38, _⟩ => ⟨S_, .f32⟩
  | .hbm, ⟨39, _⟩ => ⟨S128x4x128, .f32⟩
  | .hbm, ⟨40, _⟩ => ⟨S128x4x128, .f32⟩
  | .hbm, ⟨41, _⟩ => ⟨S128x4x128, .f32⟩
  | .hbm, ⟨42, _⟩ => ⟨S128x4x256, .f32⟩
  | .hbm, ⟨43, _⟩ => ⟨S128x4x128x1, .f32⟩
  | .hbm, ⟨44, _⟩ => ⟨S128x4x128x256, .f32⟩
  | .hbm, ⟨45, _⟩ => ⟨S128x4x128x256, .f32⟩
  | .hbm, ⟨46, _⟩ => ⟨S128x4x128x256, .f32⟩
  | .hbm, ⟨47, _⟩ => ⟨S128x4x128x1, .f32⟩
  | .hbm, ⟨48, _⟩ => ⟨S128x4x1x256, .f32⟩
  | .hbm, ⟨49, _⟩ => ⟨S128x4x128x256, .f32⟩
  | .hbm, ⟨50, _⟩ => ⟨S128x4x128x256, .f32⟩
  | .hbm, ⟨51, _⟩ => ⟨S128x4x128x256, .f32⟩
  | .hbm, ⟨52, _⟩ => ⟨S128x4x128x256, .f32⟩
  | .hbm, ⟨53, _⟩ => ⟨S128x4x256, .f32⟩
  | .hbm, ⟨54, _⟩ => ⟨S256, .f32⟩
  | .hbm, ⟨55, _⟩ => ⟨S128x4x256, .f32⟩
  | .hbm, ⟨56, _⟩ => ⟨S_, .f32⟩
  | .hbm, ⟨57, _⟩ => ⟨S128x4, .f32⟩
  | .hbm, ⟨58, _⟩ => ⟨S128x4x1, .f32⟩
  | .hbm, ⟨59, _⟩ => ⟨S_, .f32⟩
  | .hbm, ⟨60, _⟩ => ⟨S128x4x1, .f32⟩
  | .hbm, ⟨61, _⟩ => ⟨S128x4x1, .f32⟩
  | .hbm, ⟨62, _⟩ => ⟨S_, .f32⟩
  | .hbm, ⟨63, _⟩ => ⟨S128x4x1, .f32⟩
  | .hbm, ⟨64, _⟩ => ⟨S128x4x1, .f32⟩
  | .hbm, ⟨65, _⟩ => ⟨S128x4x1, .f32⟩
  | .hbm, ⟨66, _⟩ => ⟨S128x4x256, .f32⟩
  | .hbm, ⟨67, _⟩ => ⟨S128x4x256, .f32⟩
  | .hbm, ⟨68, _⟩ => ⟨S1x1x256, .f32⟩
  | .hbm, ⟨69, _⟩ => ⟨S128x4x256, .f32⟩
  | .hbm, ⟨70, _⟩ => ⟨S128x4x256, .f32⟩
  | .hbm, ⟨71, _⟩ => ⟨S128x4x256, .f32⟩
  | .hbm, ⟨72, _⟩ => ⟨S128x4x256, .f32⟩
  | .hbm, ⟨73, _⟩ => ⟨S128x4x256, .f32⟩
  | .hbm, ⟨74, _⟩ => ⟨S_, .f32⟩
  | .hbm, ⟨75, _⟩ => ⟨S128x4x256, .f32⟩
  | .hbm, ⟨76, _⟩ => ⟨S128x4x256, .f32⟩
  | .hbm, ⟨77, _⟩ => ⟨S_, .f32⟩
  | .hbm, ⟨78, _⟩ => ⟨S128x4x256, .f32⟩
  | .hbm, ⟨79, _⟩ => ⟨S128x4x256, .f32⟩
  | .hbm, ⟨80, _⟩ => ⟨S128x4x256, .f32⟩
  | .hbm, ⟨81, _⟩ => ⟨S128x4x256, .f32⟩
  | .hbm, ⟨82, _⟩ => ⟨S128x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_1 : Ref sig .tc := ⟨.hbm, 56, rfl⟩
abbrev main_v32 : Ref sig .tc := ⟨.hbm, 57, rfl⟩
abbrev main_v33 : Ref sig .tc := ⟨.hbm, 58, rfl⟩
abbrev main_cst_2 : Ref sig .tc := ⟨.hbm, 59, rfl⟩
abbrev main_v34 : Ref sig .tc := ⟨.hbm, 60, rfl⟩
abbrev main_v35 : Ref sig .tc := ⟨.hbm, 61, rfl⟩
abbrev main_cst_3 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩

abbrev nD : Nat := 1
abbrev τ : Topo := Topo.v7x

variable {F : FTy → Type} [FloatOps F]
-- ==== Kernel6.lean ====
abbrev S128x3072 : Shape := ⟨2, ![128, 3072]⟩
abbrev S1x128x3x3072 : Shape := ⟨4, ![1, 128, 3, 3072]⟩
abbrev S128x128 : Shape := ⟨2, ![128, 128]⟩
abbrev S128x1024 : Shape := ⟨2, ![128, 1024]⟩
abbrev S1x128x8x128x128 : Shape := ⟨5, ![1, 128, 8, 128, 128]⟩
abbrev S1x4x3072 : Shape := ⟨3, ![1, 4, 3072]⟩
abbrev S1x3072 : Shape := ⟨2, ![1, 3072]⟩
abbrev S1x8 : Shape := ⟨2, ![1, 8]⟩
abbrev S1x128 : Shape := ⟨2, ![1, 128]⟩
abbrev S128x3x3072 : Shape := ⟨3, ![128, 3, 3072]⟩
abbrev S128x8x128x128 : Shape := ⟨4, ![128, 8, 128, 128]⟩
abbrev S4x3072 : Shape := ⟨2, ![4, 3072]⟩
abbrev S3072 : Shape := ⟨1, ![3072]⟩
abbrev S8 : Shape := ⟨1, ![8]⟩
abbrev S128 : Shape := ⟨1, ![128]⟩
abbrev S128x24x128 : Shape := ⟨3, ![128, 24, 128]⟩
abbrev S128x3x24x128 : Shape := ⟨4, ![128, 3, 24, 128]⟩
abbrev S128x1x128 : Shape := ⟨3, ![128, 1, 128]⟩
abbrev S128x8x128 : Shape := ⟨3, ![128, 8, 128]⟩
abbrev S4x24x128 : Shape := ⟨3, ![4, 24, 128]⟩
abbrev S24x128 : Shape := ⟨2, ![24, 128]⟩
abbrev S8x1 : Shape := ⟨2, ![8, 1]⟩
abbrev S1x24x128 : Shape := ⟨3, ![1, 24, 128]⟩
abbrev S1x3x24x128 : Shape := ⟨4, ![1, 3, 24, 128]⟩
abbrev S1x1x128 : Shape := ⟨3, ![1, 1, 128]⟩
abbrev S1x8x128 : Shape := ⟨3, ![1, 8, 128]⟩
abbrev S1x8x128x128 : Shape := ⟨4, ![1, 8, 128, 128]⟩
abbrev S1x1x24x128 : Shape := ⟨4, ![1, 1, 24, 128]⟩
abbrev S8x128 : Shape := ⟨2, ![8, 128]⟩
abbrev S16x128 : Shape := ⟨2, ![16, 128]⟩
abbrev S128x16 : Shape := ⟨2, ![128, 16]⟩
abbrev S128x1 : Shape := ⟨2, ![128, 1]⟩
abbrev S1x1x128x128 : Shape := ⟨4, ![1, 1, 128, 128]⟩
abbrev S1x1 : Shape := ⟨2, ![1, 1]⟩

abbrev nBuf : Space → Nat
  | .hbm => 31
  | .vmem => 21
  | .smem => 0
  | _ => 0

abbrev bufTy : (tb : Table) → Fin (tcTables nBuf tb) → BufTy
  | .hbm, ⟨0, _⟩ => ⟨S128x3072, .f32⟩
  | .hbm, ⟨1, _⟩ => ⟨S1x128x3x3072, .f32⟩
  | .hbm, ⟨2, _⟩ => ⟨S128x128, .f32⟩
  | .hbm, ⟨3, _⟩ => ⟨S128x1024, .f32⟩
  | .hbm, ⟨4, _⟩ => ⟨S1x128x8x128x128, .f32⟩
  | .hbm, ⟨5, _⟩ => ⟨S1x4x3072, .f32⟩
  | .hbm, ⟨6, _⟩ => ⟨S1x3072, .f32⟩
  | .hbm, ⟨7, _⟩ => ⟨S1x8, .f32⟩
  | .hbm, ⟨8, _⟩ => ⟨S1x8, .f32⟩
  | .hbm, ⟨9, _⟩ => ⟨S1x128, .f32⟩
  | .hbm, ⟨10, _⟩ => ⟨S128x3x3072, .f32⟩
  | .hbm, ⟨11, _⟩ => ⟨S128x8x128x128, .f32⟩
  | .hbm, ⟨12, _⟩ => ⟨S4x3072, .f32⟩
  | .hbm, ⟨13, _⟩ => ⟨S3072, .f32⟩
  | .hbm, ⟨14, _⟩ => ⟨S8, .f32⟩
  | .hbm, ⟨15, _⟩ => ⟨S8, .f32⟩
  | .hbm, ⟨16, _⟩ => ⟨S128, .f32⟩
  | .hbm, ⟨17, _⟩ => ⟨S128x24x128, .f32⟩
  | .hbm, ⟨18, _⟩ => ⟨S128x3x24x128, .f32⟩
  | .hbm, ⟨19, _⟩ => ⟨S128x1x128, .f32⟩
  | .hbm, ⟨20, _⟩ => ⟨S128x8x128, .f32⟩
  | .hbm, ⟨21, _⟩ => ⟨S4x24x128, .f32⟩
  | .hbm, ⟨22, _⟩ => ⟨S24x128, .f32⟩
  | .hbm, ⟨23, _⟩ => ⟨S8x1, .f32⟩
  | .hbm, ⟨24, _⟩ => ⟨S8x1, .f32⟩
  | .hbm, ⟨25, _⟩ => ⟨S1x128, .f32⟩
  | .hbm, ⟨26, _⟩ => ⟨S128x8x128, .f32⟩
  | .hbm, ⟨27, _⟩ => ⟨S128x3x24x128, .f32⟩
  | .hbm, ⟨28, _⟩ => ⟨S128x8x128x128, .f32⟩
  | .hbm, ⟨29, _⟩ => ⟨S128x1024, .f32⟩
  | .hbm, ⟨30, _⟩ => ⟨S128x3x3072, .f32⟩
  | .local _ .vmem, ⟨0, _⟩ => ⟨S1x24x128, .f32⟩
  | .local _ .vmem, ⟨1, _⟩ => ⟨S1x24x128, .f32⟩
  | .local _ .vmem, ⟨2, _⟩ => ⟨S1x3x24x128, .f32⟩
  | .local _ .vmem, ⟨3, _⟩ => ⟨S1x3x24x128, .f32⟩
  | .local _ .vmem, ⟨4, _⟩ => ⟨S1x1x128, .f32⟩
  | .local _ .vmem, ⟨5, _⟩ => ⟨S1x1x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128x128, .f32⟩
  | .local _ .vmem, ⟨9, _⟩ => ⟨S1x8x128x128, .f32⟩
  | .local _ .vmem, ⟨10, _⟩ => ⟨S4x24x128, .f32⟩
  | .local _ .vmem, ⟨11, _⟩ => ⟨S24x128, .f32⟩
  | .local _ .vmem, ⟨12, _⟩ => ⟨S8x1, .f32⟩
  | .local _ .vmem, ⟨13, _⟩ => ⟨S8x1, .f32⟩
  | .local _ .vmem, ⟨14, _⟩ => ⟨S1x128, .f32⟩
  | .local _ .vmem, ⟨15, _⟩ => ⟨S1x8x128, .f32⟩
  | .local _ .vmem, ⟨16, _⟩ => ⟨S1x8x128, .f32⟩
  | .local _ .vmem, ⟨17, _⟩ => ⟨S1x3x24x128, .f32⟩
  | .local _ .vmem, ⟨18, _⟩ => ⟨S1x3x24x128, .f32⟩
  | .local _ .vmem, ⟨19, _⟩ => ⟨S1x8x128x128, .f32⟩
  | .local _ .vmem, ⟨20, _⟩ => ⟨S1x8x128x128, .f32⟩
  | _, _ => ⟨S128x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x24x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x3x24x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S128x3072 : Shape := ⟨2, ![128, 3072]⟩
abbrev S1x128x3x3072 : Shape := ⟨4, ![1, 128, 3, 3072]⟩
abbrev S128x128 : Shape := ⟨2, ![128, 128]⟩
abbrev S128x1024 : Shape := ⟨2, ![128, 1024]⟩
abbrev S1x128x8x128x128 : Shape := ⟨5, ![1, 128, 8, 128, 128]⟩
abbrev S1x4x3072 : Shape := ⟨3, ![1, 4, 3072]⟩
abbrev S1x3072 : Shape := ⟨2, ![1, 3072]⟩
abbrev S1x8 : Shape := ⟨2, ![1, 8]⟩
abbrev S1x128 : Shape := ⟨2, ![1, 128]⟩
abbrev S128x3x3072 : Shape := ⟨3, ![128, 3, 3072]⟩
abbrev S128x1x3072 : Shape := ⟨3, ![128, 1, 3072]⟩
abbrev S128x4x3072 : Shape := ⟨3, ![128, 4, 3072]⟩
abbrev S3072 : Shape := ⟨1, ![3072]⟩
abbrev S1x1x3072 : Shape := ⟨3, ![1, 1, 3072]⟩
abbrev S_ : Shape := ⟨0, ![]⟩
abbrev S128x8x128 : Shape := ⟨3, ![128, 8, 128]⟩
abbrev S128x8 : Shape := ⟨2, ![128, 8]⟩
abbrev S128x8x1 : Shape := ⟨3, ![128, 8, 1]⟩
abbrev S8 : Shape := ⟨1, ![8]⟩
abbrev S128x8x128x128 : Shape := ⟨4, ![128, 8, 128, 128]⟩
abbrev S128x8x1x1 : Shape := ⟨4, ![128, 8, 1, 1]⟩
abbrev S128x8x128x1 : Shape := ⟨4, ![128, 8, 128, 1]⟩
abbrev S128x8x1x128 : Shape := ⟨4, ![128, 8, 1, 128]⟩
abbrev S128 : Shape := ⟨1, ![128]⟩
abbrev S1x1x128 : Shape := ⟨3, ![1, 1, 128]⟩

abbrev nBuf : Space → Nat
  | .hbm => 171
  | .vmem => 0
  | .smem => 0
  | _ => 0

abbrev hbmTy0_0 (i : Nat) : BufTy := match i % 128 with
  | 0 => ⟨S128x3072, .f32⟩
  | 1 => ⟨S1x128x3x3072, .f32⟩
  | 2 => ⟨S128x128, .f32⟩
  | 3 => ⟨S128x1024, .f32⟩
  | 4 => ⟨S1x128x8x128x128, .f32⟩
  | 5 => ⟨S1x4x3072, .f32⟩
  | 6 => ⟨S1x3072, .f32⟩
  | 7 => ⟨S1x8, .f32⟩
  | 8 => ⟨S1x8, .f32⟩
  | 9 => ⟨S1x128, .f32⟩
  | 10 => ⟨S128x3x3072, .f32⟩
  | 11 => ⟨S128x1x3072, .f32⟩
  | 12 => ⟨S128x4x3072, .f32⟩
  | 13 => ⟨S3072, .f32⟩
  | 14 => ⟨S128x1x3072, .f32⟩
  | 15 => ⟨S128x3072, .f32⟩
  | 16 => ⟨S1x1x3072, .f32⟩
  | 17 => ⟨S3072, .f32⟩
  | 18 => ⟨S1x3072, .f32⟩
  | 19 => ⟨S128x3072, .f32⟩
  | 20 => ⟨S128x3072, .f32⟩
  | 21 => ⟨S1x3072, .f32⟩
  | 22 => ⟨S128x3072, .f32⟩
  | 23 => ⟨S128x3072, .f32⟩
  | 24 => ⟨S128x1x3072, .f32⟩
  | 25 => ⟨S128x3072, .f32⟩
  | 26 => ⟨S1x1x3072, .f32⟩
  | 27 => ⟨S3072, .f32⟩
  | 28 => ⟨S1x3072, .f32⟩
  | 29 => ⟨S128x3072, .f32⟩
  | 30 => ⟨S128x3072, .f32⟩
  | 31 => ⟨S128x3072, .f32⟩
  | 32 => ⟨S128x1x3072, .f32⟩
  | 33 => ⟨S128x3072, .f32⟩
  | 34 => ⟨S1x1x3072, .f32⟩
  | 35 => ⟨S3072, .f32⟩
  | 36 => ⟨S1x3072, .f32⟩
  | 37 => ⟨S128x3072, .f32⟩
  | 38 => ⟨S128x3072, .f32⟩
  | 39 => ⟨S128x3072, .f32⟩
  | 40 => ⟨S128x1x3072, .f32⟩
  | 41 => ⟨S128x3072, .f32⟩
  | 42 => ⟨S1x1x3072, .f32⟩
  | 43 => ⟨S3072, .f32⟩
  | 44 => ⟨S1x3072, .f32⟩
  | 45 => ⟨S128x3072, .f32⟩
  | 46 => ⟨S128x3072, .f32⟩
  | 47 => ⟨S128x3072, .f32⟩
  | 48 => ⟨S128x3072, .f32⟩
  | 49 => ⟨S128x3072, .f32⟩
  | 50 => ⟨S_, .f32⟩
  | 51 => ⟨S128x3072, .f32⟩
  | 52 => ⟨S128x3072, .f32⟩
  | 53 => ⟨S_, .f32⟩
  | 54 => ⟨S128x3072, .f32⟩
  | 55 => ⟨S128x3072, .f32⟩
  | 56 => ⟨S128x3072, .f32⟩
  | 57 => ⟨S128x1024, .f32⟩
  | 58 => ⟨S128x8x128, .f32⟩
  | 59 => ⟨S128x8x128, .f32⟩
  | 60 => ⟨S_, .f32⟩
  | 61 => ⟨S128x8, .f32⟩
  | 62 => ⟨S128x8x1, .f32⟩
  | 63 => ⟨S_, .f32⟩
  | 64 => ⟨S128x8x1, .f32⟩
  | 65 => ⟨S128x8x1, .f32⟩
  | 66 => ⟨S128x8x1, .f32⟩
  | 67 => ⟨S128x8x128, .f32⟩
  | 68 => ⟨S128x8x128, .f32⟩
  | 69 => ⟨S_, .f32⟩
  | 70 => ⟨S128x8x128, .f32⟩
  | 71 => ⟨S128x8x128, .f32⟩
  | 72 => ⟨S128x1024, .f32⟩
  | 73 => ⟨S128x8x128, .f32⟩
  | 74 => ⟨S128x8x128, .f32⟩
  | 75 => ⟨S_, .f32⟩
  | 76 => ⟨S128x8, .f32⟩
  | 77 => ⟨S128x8x1, .f32⟩
  | 78 => ⟨S_, .f32⟩
  | 79 => ⟨S128x8x1, .f32⟩
  | 80 => ⟨S128x8x1, .f32⟩
  | 81 => ⟨S128x8x1, .f32⟩
  | 82 => ⟨S128x8x128, .f32⟩
  | 83 => ⟨S128x8x128, .f32⟩
  | 84 => ⟨S128x1024, .f32⟩
  | 85 => ⟨S128x8x128, .f32⟩
  | 86 => ⟨S128x8, .f32⟩
  | 87 => ⟨S128x8, .f32⟩
  | 88 => ⟨S128x8, .f32⟩
  | 89 => ⟨S_, .f32⟩
  | 90 => ⟨S128x8, .f32⟩
  | 91 => ⟨S128x8, .f32⟩
  | 92 => ⟨S_, .f32⟩
  | 93 => ⟨S128x8, .f32⟩
  | 94 => ⟨S128x8, .f32⟩
  | 95 => ⟨S128x8x1, .f32⟩
  | 96 => ⟨S8, .f32⟩
  | 97 => ⟨S8, .f32⟩
  | 98 => ⟨S8, .f32⟩
  | 99 => ⟨S128x8, .f32⟩
  | 100 => ⟨S8, .f32⟩
  | 101 => ⟨S1x8, .f32⟩
  | 102 => ⟨S128x8, .f32⟩
  | 103 => ⟨S128x8, .f32⟩
  | 104 => ⟨S_, .f32⟩
  | 105 => ⟨S128x8, .f32⟩
  | 106 => ⟨S128x8, .f32⟩
  | 107 => ⟨S128x8, .f32⟩
  | 108 => ⟨S128x8, .f32⟩
  | 109 => ⟨S128x8, .i1⟩
  | 110 => ⟨S128x8, .f32⟩
  | 111 => ⟨S128x8, .f32⟩
  | 112 => ⟨S128x8, .f32⟩
  | 113 => ⟨S128x8, .f32⟩
  | 114 => ⟨S128x8, .f32⟩
  | 115 => ⟨S128x8, .f32⟩
  | 116 => ⟨S128x8, .f32⟩
  | 117 => ⟨S128x8, .f32⟩
  | 118 => ⟨S1x8, .f32⟩
  | 119 => ⟨S128x8, .f32⟩
  | 120 => ⟨S128x8, .f32⟩
  | 121 => ⟨S128x8, .f32⟩
  | 122 => ⟨S128x8x1, .f32⟩
  | 123 => ⟨S128x8x128x128, .f32⟩
  | 124 => ⟨S128x8x128, .f32⟩
  | 125 => ⟨S128x8x128, .f32⟩
  | 126 => ⟨S128x8x128, .f32⟩
  | 127 => ⟨S128x8x128, .f32⟩
  | _ => ⟨S128x3072, .f32⟩

abbrev hbmTy0_1 (i : Nat) : BufTy := match i % 128 with
  | 0 => ⟨S128x8x128, .f32⟩
  | 1 => ⟨S128x8x128, .f32⟩
  | 2 => ⟨S128x8x1x1, .f32⟩
  | 3 => ⟨S128x8x128x128, .f32⟩
  | 4 => ⟨S128x8x128x128, .f32⟩
  | 5 => ⟨S128x8x128x128, .f32⟩
  | 6 => ⟨S128x8x128x1, .f32⟩
  | 7 => ⟨S128x8x1x128, .f32⟩
  | 8 => ⟨S128x8x128x128, .f32⟩
  | 9 => ⟨S128x8x128x128, .f32⟩
  | 10 => ⟨S128x8x128x128, .f32⟩
  | 11 => ⟨S128x8x128x128, .f32⟩
  | 12 => ⟨S128x8x128, .f32⟩
  | 13 => ⟨S128, .f32⟩
  | 14 => ⟨S128x8x128, .f32⟩
  | 15 => ⟨S_, .f32⟩
  | 16 => ⟨S128x8, .f32⟩
  | 17 => ⟨S128x8x1, .f32⟩
  | 18 => ⟨S_, .f32⟩
  | 19 => ⟨S128x8x1, .f32⟩
  | 20 => ⟨S128x8x1, .f32⟩
  | 21 => ⟨S_, .f32⟩
  | 22 => ⟨S128x8x1, .f32⟩
  | 23 => ⟨S128x8x1, .f32⟩
  | 24 => ⟨S128x8x1, .f32⟩
  | 25 => ⟨S128x8x128, .f32⟩
  | 26 => ⟨S128x8x128, .f32⟩
  | 27 => ⟨S1x1x128, .f32⟩
  | 28 => ⟨S128x8x128, .f32⟩
  | 29 => ⟨S128x8x128, .f32⟩
  | 30 => ⟨S128x8x128, .f32⟩
  | 31 => ⟨S128x8x128, .f32⟩
  | 32 => ⟨S128x8x128, .f32⟩
  | 33 => ⟨S_, .f32⟩
  | 34 => ⟨S128x8x128, .f32⟩
  | 35 => ⟨S128x8x128, .f32⟩
  | 36 => ⟨S_, .f32⟩
  | 37 => ⟨S128x8x128, .f32⟩
  | 38 => ⟨S128x8x128, .f32⟩
  | 39 => ⟨S128x8x128, .f32⟩
  | 40 => ⟨S128x8x128, .f32⟩
  | 41 => ⟨S128x1024, .f32⟩
  | 42 => ⟨S128x3x3072, .f32⟩
  | _ => ⟨S128x3072, .f32⟩

abbrev hbmTy (i : Nat) : BufTy := match i / 128 with
  | 0 => hbmTy0_0 i
  | 1 => hbmTy0_1 i
  | _ => ⟨S128x3072, .f32⟩

abbrev bufTy : (tb : Table) → Fin (tcTables nBuf tb) → BufTy
  | .hbm, ⟨i, _⟩ => hbmTy i
  | _, _ => ⟨S128x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst : Ref sig .tc := ⟨.hbm, 60, rfl⟩
abbrev main_v42 : Ref sig .tc := ⟨.hbm, 61, rfl⟩
abbrev main_v43 : Ref sig .tc := ⟨.hbm, 62, rfl⟩
abbrev main_cst_0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_1 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_2 : Ref sig .tc := ⟨.hbm, 75, rfl⟩
abbrev main_v54 : Ref sig .tc := ⟨.hbm, 76, rfl⟩
abbrev main_v55 : Ref sig .tc := ⟨.hbm, 77, rfl⟩
abbrev main_cst_3 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_4 : Ref sig .tc := ⟨.hbm, 89, rfl⟩
abbrev main_v66 : Ref sig .tc := ⟨.hbm, 90, rfl⟩
abbrev main_v67 : Ref sig .tc := ⟨.hbm, 91, rfl⟩
abbrev main_cst_5 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_call1_cst : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_v6 : Ref sig .tc := ⟨.hbm, 111, rfl⟩
abbrev main_call1_v7 : Ref sig .tc := ⟨.hbm, 112, rfl⟩
abbrev main_call1_v8 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_6 : Ref sig .tc := ⟨.hbm, 143, rfl⟩
abbrev main_v105 : Ref sig .tc := ⟨.hbm, 144, rfl⟩
abbrev main_v106 : Ref sig .tc := ⟨.hbm, 145, rfl⟩
abbrev main_cst_7 : Ref sig .tc := ⟨.hbm, 146, rfl⟩
abbrev main_v107 : Ref sig .tc := ⟨.hbm, 147, rfl⟩
abbrev main_v108 : Ref sig .tc := ⟨.hbm, 148, rfl⟩
abbrev main_cst_8 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call2_v0 : Ref sig .tc := ⟨.hbm, 159, rfl⟩
abbrev main_call2_v1 : Ref sig .tc := ⟨.hbm, 160, rfl⟩
abbrev main_call2_cst : Ref sig .tc := ⟨.hbm, 161, rfl⟩
abbrev main_call2_v2 : Ref sig .tc := ⟨.hbm, 162, rfl⟩
abbrev main_call2_v3 : Ref sig .tc := ⟨.hbm, 163, rfl⟩
abbrev main_call2_cst_0 : Ref sig .tc := ⟨.hbm, 164, rfl⟩
abbrev main_call2_v4 : Ref sig .tc := ⟨.hbm, 165, rfl⟩
abbrev main_call2_v5 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩

abbrev nD : Nat := 1
abbrev τ : Topo := Topo.v7x

variable {F : FTy → Type} [FloatOps F]
-- ==== Kernel7.lean ====
abbrev S128x2048 : Shape := ⟨2, ![128, 2048]⟩
abbrev S128x3072 : Shape := ⟨2, ![128, 3072]⟩
abbrev S1x128x3x3072 : Shape := ⟨4, ![1, 128, 3, 3072]⟩
abbrev S128x128 : Shape := ⟨2, ![128, 128]⟩
abbrev S1x128x32x64x128 : Shape := ⟨5, ![1, 128, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128x3x3072 : Shape := ⟨3, ![128, 3, 3072]⟩
abbrev S128x32x64x128 : Shape := ⟨4, ![128, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S128x16x128 : Shape := ⟨3, ![128, 16, 128]⟩
abbrev S128x24x128 : Shape := ⟨3, ![128, 24, 128]⟩
abbrev S128x3x24x128 : Shape := ⟨4, ![128, 3, 24, 128]⟩
abbrev S128x1x128 : Shape := ⟨3, ![128, 1, 128]⟩
abbrev S4x24x128 : Shape := ⟨3, ![4, 24, 128]⟩
abbrev S24x128 : Shape := ⟨2, ![24, 128]⟩
abbrev S_ : Shape := ⟨0, ![]⟩
abbrev S1x128 : Shape := ⟨2, ![1, 128]⟩
abbrev S1 : Shape := ⟨1, ![1]⟩
abbrev S2 : Shape := ⟨1, ![2]⟩
abbrev S32x64 : Shape := ⟨2, ![32, 64]⟩
abbrev S16x128 : Shape := ⟨2, ![16, 128]⟩
abbrev S1x16x128 : Shape := ⟨3, ![1, 16, 128]⟩
abbrev S1x24x128 : Shape := ⟨3, ![1, 24, 128]⟩
abbrev S1x3x24x128 : Shape := ⟨4, ![1, 3, 24, 128]⟩
abbrev S1x1x128 : Shape := ⟨3, ![1, 1, 128]⟩
abbrev S1x32x64x128 : Shape := ⟨4, ![1, 32, 64, 128]⟩
abbrev S1x1x24x128 : Shape := ⟨4, ![1, 1, 24, 128]⟩
abbrev S4x128 : Shape := ⟨2, ![4, 128]⟩
abbrev S128x16 : Shape := ⟨2, ![128, 16]⟩
abbrev S64x1 : Shape := ⟨2, ![64, 1]⟩
abbrev S1x1 : Shape := ⟨2, ![1, 1]⟩
abbrev S1x1x64x128 : Shape := ⟨4, ![1, 1, 64, 128]⟩
abbrev S64x128 : Shape := ⟨2, ![64, 128]⟩
abbrev S1x8x64x128 : Shape := ⟨4, ![1, 8, 64, 128]⟩
abbrev S8x64x128 : Shape := ⟨3, ![8, 64, 128]⟩
abbrev S512x128 : Shape := ⟨2, ![512, 128]⟩
abbrev S8x128 : Shape := ⟨2, ![8, 128]⟩
abbrev S8x512 : Shape := ⟨2, ![8, 512]⟩
abbrev S1x512 : Shape := ⟨2, ![1, 512]⟩
abbrev S4 : Shape := ⟨1, ![4]⟩
abbrev S4x1 : Shape := ⟨2, ![4, 1]⟩
abbrev S1x4x128 : Shape := ⟨3, ![1, 4, 128]⟩

abbrev nBuf : Space → Nat
  | .hbm => 50
  | .vmem => 22
  | .smem => 0
  | _ => 0

abbrev bufTy : (tb : Table) → Fin (tcTables nBuf tb) → BufTy
  | .hbm, ⟨0, _⟩ => ⟨S128x2048, .f32⟩
  | .hbm, ⟨1, _⟩ => ⟨S128x3072, .f32⟩
  | .hbm, ⟨2, _⟩ => ⟨S1x128x3x3072, .f32⟩
  | .hbm, ⟨3, _⟩ => ⟨S128x128, .f32⟩
  | .hbm, ⟨4, _⟩ => ⟨S1x128x32x64x128, .f32⟩
  | .hbm, ⟨5, _⟩ => ⟨S1x4x3072, .f32⟩
  | .hbm, ⟨6, _⟩ => ⟨S1x3072, .f32⟩
  | .hbm, ⟨7, _⟩ => ⟨S1x32, .f32⟩
  | .hbm, ⟨8, _⟩ => ⟨S1x32, .f32⟩
  | .hbm, ⟨9, _⟩ => ⟨S1x32, .f32⟩
  | .hbm, ⟨10, _⟩ => ⟨S1x2048, .f32⟩
  | .hbm, ⟨11, _⟩ => ⟨S128x3x3072, .f32⟩
  | .hbm, ⟨12, _⟩ => ⟨S128x32x64x128, .f32⟩
  | .hbm, ⟨13, _⟩ => ⟨S4x3072, .f32⟩
  | .hbm, ⟨14, _⟩ => ⟨S3072, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S128x16x128, .f32⟩
  | .hbm, ⟨20, _⟩ => ⟨S128x24x128, .f32⟩
  | .hbm, ⟨21, _⟩ => ⟨S128x3x24x128, .f32⟩
  | .hbm, ⟨22, _⟩ => ⟨S128x1x128, .f32⟩
  | .hbm, ⟨23, _⟩ => ⟨S4x24x128, .f32⟩
  | .hbm, ⟨24, _⟩ => ⟨S24x128, .f32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S1x128, .f32⟩
  | .hbm, ⟨41, _⟩ => ⟨S32x64, .f32⟩
  | .hbm, ⟨42, _⟩ => ⟨S2048, .f32⟩
  | .hbm, ⟨43, _⟩ => ⟨S16x128, .f32⟩
  | .hbm, ⟨44, _⟩ => ⟨S16x128, .f32⟩
  | .hbm, ⟨45, _⟩ => ⟨S128x16x128, .f32⟩
  | .hbm, ⟨46, _⟩ => ⟨S128x3x24x128, .f32⟩
  | .hbm, ⟨47, _⟩ => ⟨S128x32x64x128, .f32⟩
  | .hbm, ⟨48, _⟩ => ⟨S128x2048, .f32⟩
  | .hbm, ⟨49, _⟩ => ⟨S128x3x3072, .f32⟩
  | .local _ .vmem, ⟨0, _⟩ => ⟨S1x16x128, .f32⟩
  | .local _ .vmem, ⟨1, _⟩ => ⟨S1x16x128, .f32⟩
  | .local _ .vmem, ⟨2, _⟩ => ⟨S1x24x128, .f32⟩
  | .local _ .vmem, ⟨3, _⟩ => ⟨S1x24x128, .f32⟩
  | .local _ .vmem, ⟨4, _⟩ => ⟨S1x3x24x128, .f32⟩
  | .local _ .vmem, ⟨5, _⟩ => ⟨S1x3x24x128, .f32⟩
  | .local _ .vmem, ⟨6, _⟩ => ⟨S1x1x128, .f32⟩
  | .local _ .vmem, ⟨7, _⟩ => ⟨S1x1x128, .f32⟩
  | .local _ .vmem, ⟨8, _⟩ => ⟨S1x32x64x128, .f32⟩
  | .local _ .vmem, ⟨9, _⟩ => ⟨S1x32x64x128, .f32⟩
  | .local _ .vmem, ⟨10, _⟩ => ⟨S4x24x128, .f32⟩
  | .local _ .vmem, ⟨11, _⟩ => ⟨S24x128, .f32⟩
  | .local _ .vmem, ⟨12, _⟩ => ⟨S1x128, .f32⟩
  | .local _ .vmem, ⟨13, _⟩ => ⟨S1x128, .f32⟩
  | .local _ .vmem, ⟨14, _⟩ => ⟨S16x128, .f32⟩
  | .local _ .vmem, ⟨15, _⟩ => ⟨S16x128, .f32⟩
  | .local _ .vmem, ⟨16, _⟩ => ⟨S1x16x128, .f32⟩
  | .local _ .vmem, ⟨17, _⟩ => ⟨S1x16x128, .f32⟩
  | .local _ .vmem, ⟨18, _⟩ => ⟨S1x3x24x128, .f32⟩
  | .local _ .vmem, ⟨19, _⟩ => ⟨S1x3x24x128, .f32⟩
  | .local _ .vmem, ⟨20, _⟩ => ⟨S1x32x64x128, .f32⟩
  | .local _ .vmem, ⟨21, _⟩ => ⟨S1x32x64x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev main_v28_2 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x24x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x24x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x3x24x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S128x2048 : Shape := ⟨2, ![128, 2048]⟩
abbrev S128x3072 : Shape := ⟨2, ![128, 3072]⟩
abbrev S1x128x3x3072 : Shape := ⟨4, ![1, 128, 3, 3072]⟩
abbrev S128x128 : Shape := ⟨2, ![128, 128]⟩
abbrev S1x128x32x64x128 : Shape := ⟨5, ![1, 128, 32, 64, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S128x3x3072 : Shape := ⟨3, ![128, 3, 3072]⟩
abbrev S128x1x3072 : Shape := ⟨3, ![128, 1, 3072]⟩
abbrev S128x4x3072 : Shape := ⟨3, ![128, 4, 3072]⟩
abbrev S3072 : Shape := ⟨1, ![3072]⟩
abbrev S1x1x3072 : Shape := ⟨3, ![1, 1, 3072]⟩
abbrev S_ : Shape := ⟨0, ![]⟩
abbrev S128x4x8x64 : Shape := ⟨4, ![128, 4, 8, 64]⟩
abbrev S128x512 : Shape := ⟨2, ![128, 512]⟩
abbrev S128x4x128 : Shape := ⟨3, ![128, 4, 128]⟩
abbrev S128x32 : Shape := ⟨2, ![128, 32]⟩
abbrev S32 : Shape := ⟨1, ![32]⟩
abbrev S128x4x8 : Shape := ⟨3, ![128, 4, 8]⟩
abbrev S128x4x8x1 : Shape := ⟨4, ![128, 4, 8, 1]⟩
abbrev S128x4x8x1x1 : Shape := ⟨5, ![128, 4, 8, 1, 1]⟩
abbrev S128x32x64x128 : Shape := ⟨4, ![128, 32, 64, 128]⟩
abbrev S128x4x8x64x128 : Shape := ⟨5, ![128, 4, 8, 64, 128]⟩
abbrev S128x4x8x64x1 : Shape := ⟨5, ![128, 4, 8, 64, 1]⟩
abbrev S128x4x1x1x128 : Shape := ⟨5, ![128, 4, 1, 1, 128]⟩
abbrev S4x8 : Shape := ⟨2, ![4, 8]⟩
abbrev S4x8x1 : Shape := ⟨3, ![4, 8, 1]⟩
abbrev S1x4x8x1 : Shape := ⟨4, ![1, 4, 8, 1]⟩
abbrev S128x4x512 : Shape := ⟨3, ![128, 4, 512]⟩
abbrev S2048 : Shape := ⟨1, ![2048]⟩
abbrev S4x512 : Shape := ⟨2, ![4, 512]⟩
abbrev S128x4 : Shape := ⟨2, ![128, 4]⟩
abbrev S128x4x1 : Shape := ⟨3, ![128, 4, 1]⟩
abbrev S1x4x512 : Shape := ⟨3, ![1, 4, 512]⟩

abbrev nBuf : Space → Nat
  | .hbm => 147
  | .vmem => 0
  | .smem => 0
  | _ => 0

abbrev hbmTy0_0 (i : Nat) : BufTy := match i % 128 with
  | 0 => ⟨S128x2048, .f32⟩
  | 1 => ⟨S128x3072, .f32⟩
  | 2 => ⟨S1x128x3x3072, .f32⟩
  | 3 => ⟨S128x128, .f32⟩
  | 4 => ⟨S1x128x32x64x128, .f32⟩
  | 5 => ⟨S1x4x3072, .f32⟩
  | 6 => ⟨S1x3072, .f32⟩
  | 7 => ⟨S1x32, .f32⟩
  | 8 => ⟨S1x32, .f32⟩
  | 9 => ⟨S1x32, .f32⟩
  | 10 => ⟨S1x2048, .f32⟩
  | 11 => ⟨S128x3x3072, .f32⟩
  | 12 => ⟨S128x1x3072, .f32⟩
  | 13 => ⟨S128x4x3072, .f32⟩
  | 14 => ⟨S3072, .f32⟩
  | 15 => ⟨S128x1x3072, .f32⟩
  | 16 => ⟨S128x3072, .f32⟩
  | 17 => ⟨S1x1x3072, .f32⟩
  | 18 => ⟨S3072, .f32⟩
  | 19 => ⟨S1x3072, .f32⟩
  | 20 => ⟨S128x3072, .f32⟩
  | 21 => ⟨S128x3072, .f32⟩
  | 22 => ⟨S1x3072, .f32⟩
  | 23 => ⟨S128x3072, .f32⟩
  | 24 => ⟨S128x3072, .f32⟩
  | 25 => ⟨S128x1x3072, .f32⟩
  | 26 => ⟨S128x3072, .f32⟩
  | 27 => ⟨S1x1x3072, .f32⟩
  | 28 => ⟨S3072, .f32⟩
  | 29 => ⟨S1x3072, .f32⟩
  | 30 => ⟨S128x3072, .f32⟩
  | 31 => ⟨S128x3072, .f32⟩
  | 32 => ⟨S128x3072, .f32⟩
  | 33 => ⟨S128x1x3072, .f32⟩
  | 34 => ⟨S128x3072, .f32⟩
  | 35 => ⟨S1x1x3072, .f32⟩
  | 36 => ⟨S3072, .f32⟩
  | 37 => ⟨S1x3072, .f32⟩
  | 38 => ⟨S128x3072, .f32⟩
  | 39 => ⟨S128x3072, .f32⟩
  | 40 => ⟨S128x3072, .f32⟩
  | 41 => ⟨S128x1x3072, .f32⟩
  | 42 => ⟨S128x3072, .f32⟩
  | 43 => ⟨S1x1x3072, .f32⟩
  | 44 => ⟨S3072, .f32⟩
  | 45 => ⟨S1x3072, .f32⟩
  | 46 => ⟨S128x3072, .f32⟩
  | 47 => ⟨S128x3072, .f32⟩
  | 48 => ⟨S128x3072, .f32⟩
  | 49 => ⟨S128x3072, .f32⟩
  | 50 => ⟨S128x3072, .f32⟩
  | 51 => ⟨S_, .f32⟩
  | 52 => ⟨S128x3072, .f32⟩
  | 53 => ⟨S128x3072, .f32⟩
  | 54 => ⟨S_, .f32⟩
  | 55 => ⟨S128x3072, .f32⟩
  | 56 => ⟨S128x3072, .f32⟩
  | 57 => ⟨S128x3072, .f32⟩
  | 58 => ⟨S128x2048, .f32⟩
  | 59 => ⟨S128x4x8x64, .f32⟩
  | 60 => ⟨S128x512, .f32⟩
  | 61 => ⟨S128x4x128, .f32⟩
  | 62 => ⟨S128x512, .f32⟩
  | 63 => ⟨S128x4x128, .f32⟩
  | 64 => ⟨S128x32, .f32⟩
  | 65 => ⟨S32, .f32⟩
  | 66 => ⟨S1x32, .f32⟩
  | 67 => ⟨S128x32, .f32⟩
  | 68 => ⟨S128x32, .f32⟩
  | 69 => ⟨S_, .f32⟩
  | 70 => ⟨S128x32, .f32⟩
  | 71 => ⟨S128x32, .f32⟩
  | 72 => ⟨S128x32, .f32⟩
  | 73 => ⟨S128x32, .f32⟩
  | 74 => ⟨S128x32, .i1⟩
  | 75 => ⟨S128x32, .f32⟩
  | 76 => ⟨S128x32, .f32⟩
  | 77 => ⟨S128x32, .f32⟩
  | 78 => ⟨S128x32, .f32⟩
  | 79 => ⟨S128x32, .f32⟩
  | 80 => ⟨S128x32, .f32⟩
  | 81 => ⟨S128x32, .f32⟩
  | 82 => ⟨S128x32, .f32⟩
  | 83 => ⟨S32, .f32⟩
  | 84 => ⟨S32, .f32⟩
  | 85 => ⟨S32, .f32⟩
  | 86 => ⟨S1x32, .f32⟩
  | 87 => ⟨S128x32, .f32⟩
  | 88 => ⟨S128x32, .f32⟩
  | 89 => ⟨S128x32, .f32⟩
  | 90 => ⟨S128x4x8, .f32⟩
  | 91 => ⟨S128x4x8, .f32⟩
  | 92 => ⟨S128x4x8x1, .f32⟩
  | 93 => ⟨S128x4x8x64, .f32⟩
  | 94 => ⟨S128x4x8x64, .f32⟩
  | 95 => ⟨S128x4x8x1x1, .f32⟩
  | 96 => ⟨S128x32x64x128, .f32⟩
  | 97 => ⟨S128x4x8x64x128, .f32⟩
  | 98 => ⟨S128x4x8x64x128, .f32⟩
  | 99 => ⟨S128x4x8x64x128, .f32⟩
  | 100 => ⟨S128x4x8x64x1, .f32⟩
  | 101 => ⟨S128x4x1x1x128, .f32⟩
  | 102 => ⟨S128x4x8x64x128, .f32⟩
  | 103 => ⟨S128x4x8x64x128, .f32⟩
  | 104 => ⟨S128x4x8x64x128, .f32⟩
  | 105 => ⟨S128x4x8x64x128, .f32⟩
  | 106 => ⟨S128x4x8x64, .f32⟩
  | 107 => ⟨S32, .f32⟩
  | 108 => ⟨S4x8, .f32⟩
  | 109 => ⟨S4x8x1, .f32⟩
  | 110 => ⟨S1x4x8x1, .f32⟩
  | 111 => ⟨S128x4x8x64, .f32⟩
  | 112 => ⟨S128x4x8x64, .f32⟩
  | 113 => ⟨S128x4x8x64, .f32⟩
  | 114 => ⟨S128x2048, .f32⟩
  | 115 => ⟨S128x2048, .f32⟩
  | 116 => ⟨S128x2048, .f32⟩
  | 117 => ⟨S_, .f32⟩
  | 118 => ⟨S128x2048, .f32⟩
  | 119 => ⟨S128x2048, .f32⟩
  | 120 => ⟨S_, .f32⟩
  | 121 => ⟨S128x2048, .f32⟩
  | 122 => ⟨S128x2048, .f32⟩
  | 123 => ⟨S128x2048, .f32⟩
  | 124 => ⟨S128x2048, .f32⟩
  | 125 => ⟨S128x4x512, .f32⟩
  | 126 => ⟨S2048, .f32⟩
  | 127 => ⟨S4x512, .f32⟩
  | _ => ⟨S128x2048, .f32⟩

abbrev hbmTy0_1 (i : Nat) : BufTy := match i % 128 with
  | 0 => ⟨S128x4x512, .f32⟩
  | 1 => ⟨S_, .f32⟩
  | 2 => ⟨S128x4, .f32⟩
  | 3 => ⟨S128x4x1, .f32⟩
  | 4 => ⟨S_, .f32⟩
  | 5 => ⟨S128x4x1, .f32⟩
  | 6 => ⟨S128x4x1, .f32⟩
  | 7 => ⟨S_, .f32⟩
  | 8 => ⟨S128x4x1, .f32⟩
  | 9 => ⟨S128x4x1, .f32⟩
  | 10 => ⟨S128x4x1, .f32⟩
  | 11 => ⟨S128x4x512, .f32⟩
  | 12 => ⟨S128x4x512, .f32⟩
  | 13 => ⟨S1x4x512, .f32⟩
  | 14 => ⟨S128x4x512, .f32⟩
  | 15 => ⟨S128x4x512, .f32⟩
  | 16 => ⟨S128x2048, .f32⟩
  | 17 => ⟨S128x3x3072, .f32⟩
  | 18 => ⟨S128x32x64x128, .f32⟩
  | _ => ⟨S128x2048, .f32⟩

abbrev hbmTy (i : Nat) : BufTy := match i / 128 with
  | 0 => hbmTy0_0 i
  | 1 => hbmTy0_1 i
  | _ => ⟨S128x2048, .f32⟩

abbrev bufTy : (tb : Table) → Fin (tcTables nBuf tb) → BufTy
  | .hbm, ⟨i, _⟩ => hbmTy i
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call2_v0 : Ref sig .tc := ⟨.hbm, 115, rfl⟩
abbrev main_call2_v1 : Ref sig .tc := ⟨.hbm, 116, rfl⟩
abbrev main_call2_cst : Ref sig .tc := ⟨.hbm, 117, rfl⟩
abbrev main_call2_v2 : Ref sig .tc := ⟨.hbm, 118, rfl⟩
abbrev main_call2_v3 : Ref sig .tc := ⟨.hbm, 119, rfl⟩
abbrev main_call2_cst_0 : Ref sig .tc := ⟨.hbm, 120, rfl⟩
abbrev main_call2_v4 : Ref sig .tc := ⟨.hbm, 121, rfl⟩
abbrev main_call2_v5 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst : Ref sig .tc := ⟨.hbm, 129, rfl⟩
abbrev main_v89 : Ref sig .tc := ⟨.hbm, 130, rfl⟩
abbrev main_v90 : Ref sig .tc := ⟨.hbm, 131, rfl⟩
abbrev main_cst_0 : Ref sig .tc := ⟨.hbm, 132, rfl⟩
abbrev main_v91 : Ref sig .tc := ⟨.hbm, 133, rfl⟩
abbrev main_v92 : Ref sig .tc := ⟨.hbm, 134, rfl⟩
abbrev main_cst_1 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩

abbrev nD : Nat := 1
abbrev τ : Topo := Topo.v7x

variable {F : FTy → Type} [FloatOps F]
-- ==== Proof.OutProj.lean ====
/- The two output projections (`kernel3` of the even layer, `kernel4` of the odd): the product of the mixer's output with the
   output weights, its RMS norm, the gain and the residual, block of rows by block of rows, equal the reference's whole-array
   lines over the extended reals. -/
module
public import proofs.«01_k».proof.Defs
public import proofs.«01_k».proof.Proof.Gen.Kernel3Ideal.Frame
public import proofs.«01_k».proof.Proof.Gen.Kernel4Ideal.Frame
public import proofs.«01_k».proof.Proof.Gen.Reference3Ideal
public import proofs.«01_k».proof.Proof.Gen.Reference4Ideal
public import Idealize.ShloMosaic.Lib.Claim
public import Idealize.ShloMosaic.Lib.IdealHost
public import Idealize.ShloMosaic.Lib.Pipeline.ValueKit
@[expose] public section
set_option maxRecDepth 16384
noncomputable section

namespace Cert.OutProj

open Idealize.ShloMosaic Idealize.SL.Sem

/-- Dividing by 1024 is multiplying by 1/1024, of any extended real. -/
theorem div_1024 (x : EReal) : Ideal.div x (Ideal.ofBits FTy.f32 1149239296#32) = x * Ideal.ofBits FTy.f32 981467136#32 := by
  have h : Ideal.ofBits FTy.f32 1149239296#32 = ((1024 : ℝ) : EReal) := by
    simp [Ideal.ofBits, Ideal.ieee, -EReal.coe_mul]; norm_num
  have h' : Ideal.ofBits FTy.f32 981467136#32 = ((1 / 1024 : ℝ) : EReal) := by
    simp [Ideal.ofBits, Ideal.ieee, -EReal.coe_mul]; norm_num
  rw [h, h', Ideal.div_coe (by norm_num)]

/-- A sum over 2048 is the sum over its first half and its second. -/
theorem sum_halves (f : Fin 2048 → EReal) :
    ∑ k, f k = ∑ k : Fin 1024, f ⟨k.val, by omega⟩ + ∑ k : Fin 1024, f ⟨1024 + k.val, by omega⟩ :=
  Fin.sum_univ_add (a := 1024) (b := 1024) f

namespace Odd
open Cert.Kernel4Ideal Cert.Kernel4Ideal.Gen

/-- Which block each window is at, point by point. -/
theorem idx : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

variable (m : (ℓ : Loc nD τ sig) → Buf (Elt Idealize.ShloMosaic.Ideal) ℓ) (c : Dev nD)

/-- The weights the launch reads. -/
theorem V1 (i : S2048x1024.Idx) : V m c main_v1 i = m (c.tc.loc main_arg1) (ix3 0 (i 0) (i 1)) := by
  entry_read
  pointwise

/-- The gain the launch reads. -/
theorem V2 (i : S1x1024.Idx) : V m c main_v4 i = m (c.tc.loc main_arg2) (ix2 0 (i 1)) := by
  entry_read
  pointwise
  blk_ext

/-- The residual the launch reads, its rows flattened. -/
theorem V3 (i : S16384x1024.Idx) : V m c main_v3 i = m (c.tc.loc main_arg3)
    (ix3 ⟨(i 0).val / 2048, by have : (i 0).val < 16384 := (i 0).isLt; omega⟩ ⟨(i 0).val % 2048, by omega⟩ (i 1)) := by
  entry_read
  pointwise

/-- What the block of rows at a point holds. -/
theorem B0 (t : Fin cfg0.N) (x : S512x2048.Idx) : iblk m c 0 t x = m (c.tc.loc main_arg0)
    (ix2 ⟨t.val * 512 + (x 0).val, by have : (x 0).val < 512 := (x 0).isLt; have : t.val < 32 := t.isLt; omega⟩ (x 1)) := by
  simp only [iblk]
  blk_ext [V, idx t]

/-- The weights at a point. -/
theorem B1 (t : Fin cfg0.N) (x : S2048x1024.Idx) : iblk m c 1 t x = m (c.tc.loc main_arg1) (ix3 0 (x 0) (x 1)) := by
  show V m c main_v1 _ = _
  rw [V1]
  blk_ext [idx t]

/-- The gain at a point. -/
theorem B2 (t : Fin cfg0.N) (x : S1x1024.Idx) : iblk m c 2 t x = m (c.tc.loc main_arg2) (ix2 0 (x 1)) := by
  show V m c main_v4 _ = _
  rw [V2]
  blk_ext [idx t]

/-- The block of the residual at a point. -/
theorem B3 (t : Fin cfg0.N) (x : S512x1024.Idx) : iblk m c 3 t x = m (c.tc.loc main_arg3)
    (ix3 ⟨(t.val * 512 + (x 0).val) / 2048, by have : (x 0).val < 512 := (x 0).isLt; have : t.val < 32 := t.isLt; omega⟩
      ⟨(t.val * 512 + (x 0).val) % 2048, by omega⟩ (x 1)) := by
  show V m c main_v3 _ = _
  rw [V3]
  blk_ext [idx t]

/-- Every block of rows the odd layer's projection leaves is the reference's block. -/
theorem algebraic : Cert.algebraic_Kernel4Ideal_Reference4Ideal := by
  pair_intro
  · run_from Cert.Kernel4Ideal.Gen.run_main m g
  · hlo_run
    symm
    refine (dats m 0 c).arrAt_eq_of_covers 4 _ (by decide +kernel) fun t hf y => ?_
    blk_simp
    rw [after0_4]
    frame_out
    pointwise [k0_pay1]
    simp only [div_1024]
    simp only [B0, B1, B2, B3]
    blk_point [idx t]

end Odd

namespace Even
open Cert.Kernel3Ideal Cert.Kernel3Ideal.Gen

/-- Which block each window is at, point by point. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![t.val, 0] ∧ win0_6.index t = ![t.val, 0] :=
  (by decide +kernel : ∀ t : Fin grid0.N, _)

variable (m : (ℓ : Loc nD τ sig) → Buf (Elt Idealize.ShloMosaic.Ideal) ℓ) (c : Dev nD)

/-- The weights of the first half the launch reads. -/
theorem V2 (i : S1024x1024.Idx) : V m c main_v2 i = m (c.tc.loc main_arg2)
    (ix3 0 ⟨(i 0).val, by have : (i 0).val < 1024 := (i 0).isLt; omega⟩ (i 1)) := by
  entry_read
  pointwise

/-- The weights of the second half the launch reads. -/
theorem V3 (i : S1024x1024.Idx) : V m c main_v3 i = m (c.tc.loc main_arg2)
    (ix3 0 ⟨1024 + (i 0).val, by have : (i 0).val < 1024 := (i 0).isLt; omega⟩ (i 1)) := by
  entry_read
  pointwise

/-- The gain the launch reads. -/
theorem V6 (i : S1x1024.Idx) : V m c main_v6 i = m (c.tc.loc main_arg3) (ix2 0 (i 1)) := by
  entry_read
  pointwise
  blk_ext

/-- The residual the launch reads, its rows flattened. -/
theorem V5 (i : S16384x1024.Idx) : V m c main_v5 i = m (c.tc.loc main_arg4)
    (ix3 ⟨(i 0).val / 2048, by have : (i 0).val < 16384 := (i 0).isLt; omega⟩ ⟨(i 0).val % 2048, by omega⟩ (i 1)) := by
  entry_read
  pointwise

/-- What the block of rows of the first operand at a point holds. -/
theorem B0 (t : Fin cfg0.N) (x : S512x1024.Idx) : iblk m c 0 t x = m (c.tc.loc main_arg0)
    (ix2 ⟨t.val * 512 + (x 0).val, by have : (x 0).val < 512 := (x 0).isLt; have : t.val < 32 := t.isLt; omega⟩ (x 1)) := by
  simp only [iblk]
  blk_ext [V, idx t]

/-- What the block of rows of the second operand at a point holds. -/
theorem B1 (t : Fin cfg0.N) (x : S512x1024.Idx) : iblk m c 1 t x = m (c.tc.loc main_arg1)
    (ix2 ⟨t.val * 512 + (x 0).val, by have : (x 0).val < 512 := (x 0).isLt; have : t.val < 32 := t.isLt; omega⟩ (x 1)) := by
  simp only [iblk]
  blk_ext [V, idx t]

/-- The weights of the first half at a point. -/
theorem B2 (t : Fin cfg0.N) (x : S1024x1024.Idx) : iblk m c 2 t x = m (c.tc.loc main_arg2)
    (ix3 0 ⟨(x 0).val, by have : (x 0).val < 1024 := (x 0).isLt; omega⟩ (x 1)) := by
  show V m c main_v2 _ = _
  rw [V2]
  blk_ext [idx t]

/-- The weights of the second half at a point. -/
theorem B3 (t : Fin cfg0.N) (x : S1024x1024.Idx) : iblk m c 3 t x = m (c.tc.loc main_arg2)
    (ix3 0 ⟨1024 + (x 0).val, by have : (x 0).val < 1024 := (x 0).isLt; omega⟩ (x 1)) := by
  show V m c main_v3 _ = _
  rw [V3]
  blk_ext [idx t]

/-- The gain at a point. -/
theorem B4 (t : Fin cfg0.N) (x : S1x1024.Idx) : iblk m c 4 t x = m (c.tc.loc main_arg3) (ix2 0 (x 1)) := by
  show V m c main_v6 _ = _
  rw [V6]
  blk_ext [idx t]

/-- The block of the residual at a point. -/
theorem B5 (t : Fin cfg0.N) (x : S512x1024.Idx) : iblk m c 5 t x = m (c.tc.loc main_arg4)
    (ix3 ⟨(t.val * 512 + (x 0).val) / 2048, by have : (x 0).val < 512 := (x 0).isLt; have : t.val < 32 := t.isLt; omega⟩
      ⟨(t.val * 512 + (x 0).val) % 2048, by omega⟩ (x 1)) := by
  show V m c main_v5 _ = _
  rw [V5]
  blk_ext [idx t]

/-- Every block of rows the even layer's projection leaves is the reference's block. -/
theorem algebraic : Cert.algebraic_Kernel3Ideal_Reference3Ideal := by
  pair_intro
  · run_from Cert.Kernel3Ideal.Gen.run_main m g
  · hlo_run
    symm
    refine (dats m 0 c).arrAt_eq_of_covers 6 _ (by decide +kernel) fun t hf y => ?_
    blk_simp
    rw [after0_6]
    frame_out
    pointwise [k0_pay1]
    simp only [div_1024, sum_halves]
    simp only [B0, B1, B2, B3, B4, B5]
    blk_point [idx t]

end Even

end Cert.OutProj

end
-- ==== Proof.EvenProj.lean ====
/- The input projection of the even layer (`kernel`): the RMS norm of the rows with its gain, times the packed weights, tile of
   columns by tile of columns, equals the reference's norm, product and column slices over the extended reals. -/
module
public import proofs.«01_k».proof.Defs
public import proofs.«01_k».proof.Proof.Gen.KernelIdeal.Frame
public import proofs.«01_k».proof.Proof.Gen.ReferenceIdeal
public import proofs.«01_k».proof.Proof.OutProj
public import Idealize.ShloMosaic.Lib.Claim
public import Idealize.ShloMosaic.Lib.IdealHost
public import Idealize.ShloMosaic.Lib.Pipeline.ValueKit
@[expose] public section
set_option maxRecDepth 16384
noncomputable section

namespace Cert.EvenProj

open Idealize.ShloMosaic Idealize.SL.Sem
open Cert.KernelIdeal Cert.KernelIdeal.Gen

/-- Which block each window is at, point by point. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

variable (m : (ℓ : Loc nD τ sig) → Buf (Elt Idealize.ShloMosaic.Ideal) ℓ) (c : Dev nD)

/-- The rows the launch reads. -/
theorem V_rows (i : S16384x1024.Idx) : V m c main_v0 i = m (c.tc.loc main_arg0)
    (ix3 ⟨(i 0).val / 2048, by have : (i 0).val < 16384 := (i 0).isLt; omega⟩ ⟨(i 0).val % 2048, by omega⟩ (i 1)) := by
  simp only [V, V0, hostOps0, hostOps0_1, hostOps0_2, hostOps0_3, hostOps0_4, List.flatten_cons, List.flatten_nil, List.append_nil, List.cons_append, List.nil_append]
  entry_read
  pointwise

/-- The gain the launch reads. -/
theorem V_gain (i : S1x1024.Idx) : V m c main_v15 i = m (c.tc.loc main_arg1) (ix2 0 (i 1)) := by
  simp only [V, V0, hostOps0, hostOps0_1, hostOps0_2, hostOps0_3, hostOps0_4, List.flatten_cons, List.flatten_nil, List.append_nil, List.cons_append, List.nil_append]
  entry_read
  pointwise
  blk_ext

/-- What the host line has made before it packs the weights. -/
abbrev before : Valuation τ sig (Elt Idealize.ShloMosaic.Ideal) :=
  StableHlo.after (hostOps0 ++ (hostOps0_1 ++ (hostOps0_2 ++ (hostOps0_3)))) fun b => m (c, b)

/-- The packed weights, piece by piece. -/
theorem V_pieces (k : Fin 1024) (j : Fin 7424) : V m c main_v14 (ix2 k j) =
    if h : j.val < 3072 then before m c (Proc.devRef .tc main_v3) (ix2 k ⟨j.val, h⟩)
    else if h : j.val - 3072 < 1024 then before m c (Proc.devRef .tc main_v4) (ix2 k ⟨j.val - 3072, h⟩)
    else if h : j.val - 4096 < 1024 then before m c (Proc.devRef .tc main_v8) (ix2 k ⟨j.val - 4096, h⟩)
    else if h : j.val - 5120 < 1024 then before m c (Proc.devRef .tc main_v9) (ix2 k ⟨j.val - 5120, h⟩)
    else if h : j.val - 6144 < 512 then before m c (Proc.devRef .tc main_v6) (ix2 k ⟨j.val - 6144, h⟩)
    else if h : j.val - 6656 < 512 then before m c (Proc.devRef .tc main_v7) (ix2 k ⟨j.val - 6656, h⟩)
    else if h : j.val - 7168 < 128 then before m c (Proc.devRef .tc main_v11) (ix2 k ⟨j.val - 7168, h⟩)
    else before m c (Proc.devRef .tc main_v12) (ix2 k ⟨j.val - 7296, by omega⟩) := by
  have hV : V m c main_v14 = StableHlo.after hostOps0_4 (before m c) (Proc.devRef .tc main_v14) := rfl
  rw [hV]
  generalize before m c = σ
  simp only [hostOps0_4, StableHlo.after_cons, StableHlo.after_nil]
  rw [StableHlo.reshape_result_ne (h := by decide), StableHlo.unary_result, StableHlo.nary_result]
  pointwise
  simp only [Nat.sub_sub]

/-- The columns from 0. -/
theorem piece_v3 (k : Fin 1024) (j : Fin 3072) : before m c (Proc.devRef .tc main_v3) (ix2 k j) =
    m (c.tc.loc main_arg2) (ix3 0 k ⟨0 + j.val, by omega⟩) := by
  simp only [before, hostOps0, hostOps0_1, hostOps0_2, hostOps0_3, List.cons_append, List.nil_append]
  entry_read
  pointwise
  try blk_ext

/-- The columns from 3072. -/
theorem piece_v4 (k : Fin 1024) (j : Fin 1024) : before m c (Proc.devRef .tc main_v4) (ix2 k j) =
    m (c.tc.loc main_arg2) (ix3 0 k ⟨3072 + j.val, by omega⟩) := by
  simp only [before, hostOps0, hostOps0_1, hostOps0_2, hostOps0_3, List.cons_append, List.nil_append]
  entry_read
  pointwise
  try blk_ext

/-- The columns from 5136. -/
theorem piece_v8 (k : Fin 1024) (j : Fin 1024) : before m c (Proc.devRef .tc main_v8) (ix2 k j) =
    m (c.tc.loc main_arg2) (ix3 0 k ⟨5136 + j.val, by omega⟩) := by
  simp only [before, hostOps0, hostOps0_1, hostOps0_2, hostOps0_3, List.cons_append, List.nil_append]
  entry_read
  pointwise
  try blk_ext

/-- The columns from 6160. -/
theorem piece_v9 (k : Fin 1024) (j : Fin 1024) : before m c (Proc.devRef .tc main_v9) (ix2 k j) =
    m (c.tc.loc main_arg2) (ix3 0 k ⟨6160 + j.val, by omega⟩) := by
  simp only [before, hostOps0, hostOps0_1, hostOps0_2, hostOps0_3, List.cons_append, List.nil_append]
  entry_read
  pointwise
  try blk_ext

/-- The columns from 4112. -/
theorem piece_v6 (k : Fin 1024) (j : Fin 512) : before m c (Proc.devRef .tc main_v6) (ix2 k j) =
    m (c.tc.loc main_arg2) (ix3 0 k ⟨4112 + j.val, by omega⟩) := by
  simp only [before, hostOps0, hostOps0_1, hostOps0_2, hostOps0_3, List.cons_append, List.nil_append]
  entry_read
  pointwise
  try blk_ext

/-- The columns from 4624. -/
theorem piece_v7 (k : Fin 1024) (j : Fin 512) : before m c (Proc.devRef .tc main_v7) (ix2 k j) =
    m (c.tc.loc main_arg2) (ix3 0 k ⟨4624 + j.val, by omega⟩) := by
  simp only [before, hostOps0, hostOps0_1, hostOps0_2, hostOps0_3, List.cons_append, List.nil_append]
  entry_read
  pointwise
  try blk_ext

/-- The narrow columns from 4096, padded. -/
theorem piece_v11 (k : Fin 1024) (j : Fin 128) : before m c (Proc.devRef .tc main_v11) (ix2 k j) =
    if h : j.val < 16 then m (c.tc.loc main_arg2) (ix3 0 k ⟨4096 + j.val, by omega⟩) else (0 : EReal) := by
  simp only [before, hostOps0, hostOps0_1, hostOps0_2, hostOps0_3, List.cons_append, List.nil_append]
  entry_read
  simp only [StableHlo.TRef.toBuf, StableHlo.TRef.ofBuf, cast_eq]
  pointwise
  rw [show (FloatOps.sitofp (F := Idealize.ShloMosaic.Ideal) FTy.f32 0#32 : EReal) = 0 from by show (((0#32).toInt : ℝ) : EReal) = 0; simp]

/-- The narrow columns from 7184, padded. -/
theorem piece_v12 (k : Fin 1024) (j : Fin 128) : before m c (Proc.devRef .tc main_v12) (ix2 k j) =
    if h : j.val < 16 then m (c.tc.loc main_arg2) (ix3 0 k ⟨7184 + j.val, by omega⟩) else (0 : EReal) := by
  simp only [before, hostOps0, hostOps0_1, hostOps0_2, hostOps0_3, List.cons_append, List.nil_append]
  entry_read
  simp only [StableHlo.TRef.toBuf, StableHlo.TRef.ofBuf, cast_eq]
  pointwise
  rw [show (FloatOps.sitofp (F := Idealize.ShloMosaic.Ideal) FTy.f32 0#32 : EReal) = 0 from by show (((0#32).toInt : ℝ) : EReal) = 0; simp]

/-- The block of rows at a point. -/
theorem rows (t : Fin cfg0.N) (x : S256x1024.Idx) : iblk m c 0 t x = m (c.tc.loc main_arg0)
    (ix3 ⟨(t.val * 256 + (x 0).val) / 2048, by have : (x 0).val < 256 := (x 0).isLt; have : t.val < 64 := t.isLt; omega⟩
      ⟨(t.val * 256 + (x 0).val) % 2048, by omega⟩ (x 1)) := by
  show V m c main_v0 _ = _
  rw [V_rows]
  blk_ext [idx t]

/-- The gain at a point. -/
theorem gain (t : Fin cfg0.N) (x : S1x1024.Idx) : iblk m c 1 t x = m (c.tc.loc main_arg1) (ix2 0 (x 1)) := by
  show V m c main_v15 _ = _
  rw [V_gain]
  blk_ext [idx t]

/-- The packed weights at a point. -/
theorem weights (t : Fin cfg0.N) (x : S1024x7424.Idx) : iblk m c 2 t x = V m c main_v14 (ix2 (x 0) (x 1)) := by
  show V m c main_v14 _ = _
  blk_ext [idx t]

/-- The weights of output 3's columns. -/
theorem cols_3 (t : Fin cfg0.N) (y : S256x3072.Idx) (k : Fin 1024) : iblk m c 2 t (ix2 k ⟨0 + (y 1).val, by have : (y 1).val < 3072 := (y 1).isLt; omega⟩) =
    m (c.tc.loc main_arg2) (ix3 0 k ⟨0 + (y 1).val, by have : (y 1).val < 3072 := (y 1).isLt; omega⟩) := by
  have hy : (y 1).val < 3072 := (y 1).isLt
  rw [weights]
  show V m c main_v14 (ix2 k ⟨0 + (y 1).val, by have : (y 1).val < 3072 := (y 1).isLt; omega⟩) = _
  rw [V_pieces, dif_pos (by dsimp only; omega), piece_v3]
  blk_ext

/-- Output 3's block: the normalised rows times its columns of the packed weights. -/
theorem after_3 (t : Fin cfg0.N) (y : S256x3072.Idx) : (dats m 0 c).after 3 t y =
    ∑ k : Fin 1024, (k0_pay1 (iblk m c 0 t) (iblk m c 1 t) (ix2 (y 0) k) : EReal) * m (c.tc.loc main_arg2) (ix3 0 k ⟨0 + (y 1).val, by have : (y 1).val < 3072 := (y 1).isLt; omega⟩) := by
  simp only [← cols_3 m c t y]
  rw [after0_3]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  generalize k0_pay1 (iblk m c 0 t) (iblk m c 1 t) = u
  canon_tiles x h
  all_goals (pointwise [k0_pay2, k0_pay3, k0_pay4, k0_pay5, k0_pay6, k0_pay7]; blk_point [])

/-- The weights of output 4's columns. -/
theorem cols_4 (t : Fin cfg0.N) (y : S256x1024.Idx) (k : Fin 1024) : iblk m c 2 t (ix2 k ⟨3072 + (y 1).val, by have : (y 1).val < 1024 := (y 1).isLt; omega⟩) =
    m (c.tc.loc main_arg2) (ix3 0 k ⟨3072 + (y 1).val, by have : (y 1).val < 1024 := (y 1).isLt; omega⟩) := by
  have hy : (y 1).val < 1024 := (y 1).isLt
  rw [weights]
  show V m c main_v14 (ix2 k ⟨3072 + (y 1).val, by have : (y 1).val < 1024 := (y 1).isLt; omega⟩) = _
  rw [V_pieces, dif_neg (by dsimp only; omega), dif_pos (by dsimp only; omega), piece_v4]
  blk_ext

/-- Output 4's block: the normalised rows times its columns of the packed weights. -/
theorem after_4 (t : Fin cfg0.N) (y : S256x1024.Idx) : (dats m 0 c).after 4 t y =
    ∑ k : Fin 1024, (k0_pay1 (iblk m c 0 t) (iblk m c 1 t) (ix2 (y 0) k) : EReal) * m (c.tc.loc main_arg2) (ix3 0 k ⟨3072 + (y 1).val, by have : (y 1).val < 1024 := (y 1).isLt; omega⟩) := by
  simp only [← cols_4 m c t y]
  rw [after0_4]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  generalize k0_pay1 (iblk m c 0 t) (iblk m c 1 t) = u
  canon_tiles x h
  all_goals (pointwise [k0_pay8, k0_pay9]; blk_point [])

/-- The weights of output 5's columns. -/
theorem cols_5 (t : Fin cfg0.N) (y : S256x1024.Idx) (k : Fin 1024) : iblk m c 2 t (ix2 k ⟨4096 + (y 1).val, by have : (y 1).val < 1024 := (y 1).isLt; omega⟩) =
    m (c.tc.loc main_arg2) (ix3 0 k ⟨5136 + (y 1).val, by have : (y 1).val < 1024 := (y 1).isLt; omega⟩) := by
  have hy : (y 1).val < 1024 := (y 1).isLt
  rw [weights]
  show V m c main_v14 (ix2 k ⟨4096 + (y 1).val, by have : (y 1).val < 1024 := (y 1).isLt; omega⟩) = _
  rw [V_pieces, dif_neg (by dsimp only; omega), dif_neg (by dsimp only; omega), dif_pos (by dsimp only; omega), piece_v8]
  blk_ext

/-- Output 5's block: the normalised rows times its columns of the packed weights. -/
theorem after_5 (t : Fin cfg0.N) (y : S256x1024.Idx) : (dats m 0 c).after 5 t y =
    ∑ k : Fin 1024, (k0_pay1 (iblk m c 0 t) (iblk m c 1 t) (ix2 (y 0) k) : EReal) * m (c.tc.loc main_arg2) (ix3 0 k ⟨5136 + (y 1).val, by have : (y 1).val < 1024 := (y 1).isLt; omega⟩) := by
  simp only [← cols_5 m c t y]
  rw [after0_5]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  generalize k0_pay1 (iblk m c 0 t) (iblk m c 1 t) = u
  canon_tiles x h
  all_goals (pointwise [k0_pay10, k0_pay11]; blk_point [])

/-- The weights of output 6's columns. -/
theorem cols_6 (t : Fin cfg0.N) (y : S256x1024.Idx) (k : Fin 1024) : iblk m c 2 t (ix2 k ⟨5120 + (y 1).val, by have : (y 1).val < 1024 := (y 1).isLt; omega⟩) =
    m (c.tc.loc main_arg2) (ix3 0 k ⟨6160 + (y 1).val, by have : (y 1).val < 1024 := (y 1).isLt; omega⟩) := by
  have hy : (y 1).val < 1024 := (y 1).isLt
  rw [weights]
  show V m c main_v14 (ix2 k ⟨5120 + (y 1).val, by have : (y 1).val < 1024 := (y 1).isLt; omega⟩) = _
  rw [V_pieces, dif_neg (by dsimp only; omega), dif_neg (by dsimp only; omega), dif_neg (by dsimp only; omega), dif_pos (by dsimp only; omega), piece_v9]
  blk_ext

/-- Output 6's block: the normalised rows times its columns of the packed weights. -/
theorem after_6 (t : Fin cfg0.N) (y : S256x1024.Idx) : (dats m 0 c).after 6 t y =
    ∑ k : Fin 1024, (k0_pay1 (iblk m c 0 t) (iblk m c 1 t) (ix2 (y 0) k) : EReal) * m (c.tc.loc main_arg2) (ix3 0 k ⟨6160 + (y 1).val, by have : (y 1).val < 1024 := (y 1).isLt; omega⟩) := by
  simp only [← cols_6 m c t y]
  rw [after0_6]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  generalize k0_pay1 (iblk m c 0 t) (iblk m c 1 t) = u
  canon_tiles x h
  all_goals (pointwise [k0_pay12, k0_pay13]; blk_point [])

/-- The weights of output 7's columns. -/
theorem cols_7 (t : Fin cfg0.N) (y : S256x512.Idx) (k : Fin 1024) : iblk m c 2 t (ix2 k ⟨6144 + (y 1).val, by have : (y 1).val < 512 := (y 1).isLt; omega⟩) =
    m (c.tc.loc main_arg2) (ix3 0 k ⟨4112 + (y 1).val, by have : (y 1).val < 512 := (y 1).isLt; omega⟩) := by
  have hy : (y 1).val < 512 := (y 1).isLt
  rw [weights]
  show V m c main_v14 (ix2 k ⟨6144 + (y 1).val, by have : (y 1).val < 512 := (y 1).isLt; omega⟩) = _
  rw [V_pieces, dif_neg (by dsimp only; omega), dif_neg (by dsimp only; omega), dif_neg (by dsimp only; omega), dif_neg (by dsimp only; omega), dif_pos (by dsimp only; omega), piece_v6]
  blk_ext

/-- Output 7's block: the normalised rows times its columns of the packed weights. -/
theorem after_7 (t : Fin cfg0.N) (y : S256x512.Idx) : (dats m 0 c).after 7 t y =
    ∑ k : Fin 1024, (k0_pay1 (iblk m c 0 t) (iblk m c 1 t) (ix2 (y 0) k) : EReal) * m (c.tc.loc main_arg2) (ix3 0 k ⟨4112 + (y 1).val, by have : (y 1).val < 512 := (y 1).isLt; omega⟩) := by
  simp only [← cols_7 m c t y]
  rw [after0_7]
  frame_out
  generalize k0_pay1 (iblk m c 0 t) (iblk m c 1 t) = u
  pointwise [k0_pay14]
  try blk_point []

/-- The weights of output 8's columns. -/
theorem cols_8 (t : Fin cfg0.N) (y : S256x512.Idx) (k : Fin 1024) : iblk m c 2 t (ix2 k ⟨6656 + (y 1).val, by have : (y 1).val < 512 := (y 1).isLt; omega⟩) =
    m (c.tc.loc main_arg2) (ix3 0 k ⟨4624 + (y 1).val, by have : (y 1).val < 512 := (y 1).isLt; omega⟩) := by
  have hy : (y 1).val < 512 := (y 1).isLt
  rw [weights]
  show V m c main_v14 (ix2 k ⟨6656 + (y 1).val, by have : (y 1).val < 512 := (y 1).isLt; omega⟩) = _
  rw [V_pieces, dif_neg (by dsimp only; omega), dif_neg (by dsimp only; omega), dif_neg (by dsimp only; omega), dif_neg (by dsimp only; omega), dif_neg (by dsimp only; omega), dif_pos (by dsimp only; omega), piece_v7]
  blk_ext

/-- Output 8's block: the normalised rows times its columns of the packed weights. -/
theorem after_8 (t : Fin cfg0.N) (y : S256x512.Idx) : (dats m 0 c).after 8 t y =
    ∑ k : Fin 1024, (k0_pay1 (iblk m c 0 t) (iblk m c 1 t) (ix2 (y 0) k) : EReal) * m (c.tc.loc main_arg2) (ix3 0 k ⟨4624 + (y 1).val, by have : (y 1).val < 512 := (y 1).isLt; omega⟩) := by
  simp only [← cols_8 m c t y]
  rw [after0_8]
  frame_out
  generalize k0_pay1 (iblk m c 0 t) (iblk m c 1 t) = u
  pointwise [k0_pay15]
  try blk_point []

/-- The weights of output 9's columns. -/
theorem cols_9 (t : Fin cfg0.N) (y : S256x128.Idx) (k : Fin 1024) : iblk m c 2 t (ix2 k ⟨7168 + (y 1).val, by have : (y 1).val < 128 := (y 1).isLt; omega⟩) =
    (if h : (y 1).val < 16 then m (c.tc.loc main_arg2) (ix3 0 k ⟨4096 + (y 1).val, by omega⟩) else (0 : EReal)) := by
  have hy : (y 1).val < 128 := (y 1).isLt
  rw [weights]
  show V m c main_v14 (ix2 k ⟨7168 + (y 1).val, by have : (y 1).val < 128 := (y 1).isLt; omega⟩) = _
  rw [V_pieces, dif_neg (by dsimp only; omega), dif_neg (by dsimp only; omega), dif_neg (by dsimp only; omega), dif_neg (by dsimp only; omega), dif_neg (by dsimp only; omega), dif_neg (by dsimp only; omega), dif_pos (by dsimp only; omega), piece_v11]
  simp only [Nat.add_sub_cancel_left]

/-- Output 9's block: the normalised rows times its columns of the packed weights. -/
theorem after_9 (t : Fin cfg0.N) (y : S256x128.Idx) : (dats m 0 c).after 9 t y =
    ∑ k : Fin 1024, (k0_pay1 (iblk m c 0 t) (iblk m c 1 t) (ix2 (y 0) k) : EReal) * (if h : (y 1).val < 16 then m (c.tc.loc main_arg2) (ix3 0 k ⟨4096 + (y 1).val, by omega⟩) else (0 : EReal)) := by
  simp only [← cols_9 m c t y]
  rw [after0_9]
  frame_out
  generalize k0_pay1 (iblk m c 0 t) (iblk m c 1 t) = u
  pointwise [k0_pay16]
  try blk_point []

/-- The weights of output 10's columns. -/
theorem cols_10 (t : Fin cfg0.N) (y : S256x128.Idx) (k : Fin 1024) : iblk m c 2 t (ix2 k ⟨7296 + (y 1).val, by have : (y 1).val < 128 := (y 1).isLt; omega⟩) =
    (if h : (y 1).val < 16 then m (c.tc.loc main_arg2) (ix3 0 k ⟨7184 + (y 1).val, by omega⟩) else (0 : EReal)) := by
  have hy : (y 1).val < 128 := (y 1).isLt
  rw [weights]
  show V m c main_v14 (ix2 k ⟨7296 + (y 1).val, by have : (y 1).val < 128 := (y 1).isLt; omega⟩) = _
  rw [V_pieces, dif_neg (by dsimp only; omega), dif_neg (by dsimp only; omega), dif_neg (by dsimp only; omega), dif_neg (by dsimp only; omega), dif_neg (by dsimp only; omega), dif_neg (by dsimp only; omega), dif_neg (by dsimp only; omega), piece_v12]
  simp only [Nat.add_sub_cancel_left]

/-- Output 10's block: the normalised rows times its columns of the packed weights. -/
theorem after_10 (t : Fin cfg0.N) (y : S256x128.Idx) : (dats m 0 c).after 10 t y =
    ∑ k : Fin 1024, (k0_pay1 (iblk m c 0 t) (iblk m c 1 t) (ix2 (y 0) k) : EReal) * (if h : (y 1).val < 16 then m (c.tc.loc main_arg2) (ix3 0 k ⟨7184 + (y 1).val, by omega⟩) else (0 : EReal)) := by
  simp only [← cols_10 m c t y]
  rw [after0_10]
  frame_out
  generalize k0_pay1 (iblk m c 0 t) (iblk m c 1 t) = u
  pointwise [k0_pay17]
  try blk_point []

/-- The convolution's new state is cut out of the array that window 3 fills: each prompt's last three rows. -/
theorem tail : Pipeline.afterTail₀ cfgs (dats m) 0 (V0 m) [hostOps1] c main_v19 =
    broadcastInDim S1x8x3x3072 ![1, 2, 3] bcast_S8x3x3072_S1x8x3x3072_1_2_3 (extractStridedSlice S8x3x3072 ![0, 2045, 0]
      (fun i => shapeCast S8x2048x3072 ((dats m 0 c).arrAt 3 (cfgs 0).N) shapeCasts_S16384x3072_S8x2048x3072 i) slices_S8x2048x3072_S8x3x3072_0_2045_0) := by
  unfold Pipeline.afterTail₀
  have h := Pipeline.withArrays_arr (cfgs 0).spec winFacts0.arr_inj c (V0 m c) (fun w => (dats m 0 c).arrAt w (cfgs 0).N) 3
  rw [← h]
  generalize Pipeline.withArrays (cfgs 0).spec c (V0 m c) (fun w => (dats m 0 c).arrAt w (cfgs 0).N) = σ
  simp only [hostOps1, List.flatten_cons, List.flatten_nil, List.append_nil]
  after_results
  rfl

/-- The array that window 3 fills, element by element. -/
theorem qkv (h : S8x2048x1024.Idx → EReal) (g : S1x1024.Idx → EReal) (w : S1x1024x7200.Idx → EReal)
    (eh : h = m (c.tc.loc main_arg0)) (eg : g = m (c.tc.loc main_arg1)) (ew : w = m (c.tc.loc main_arg2)) :
    (dats m 0 c).arrAt 3 (cfgs 0).N = fun i : S16384x3072.Idx => ∑ x : Fin 1024,
    h (ix3 ⟨(i 0).val / 2048, by have : (i 0).val < 16384 := (i 0).isLt; omega⟩ ⟨(i 0).val % 2048, by omega⟩ x) * Ideal.rsqrt ((∑ x : Fin 1024, h (ix3 ⟨(i 0).val / 2048, by have : (i 0).val < 16384 := (i 0).isLt; omega⟩ ⟨(i 0).val % 2048, by omega⟩ x) * h (ix3 ⟨(i 0).val / 2048, by have : (i 0).val < 16384 := (i 0).isLt; omega⟩ ⟨(i 0).val % 2048, by omega⟩ x)) * Ideal.ofBits FTy.f32 981467136#32 +
      Ideal.ofBits FTy.f32 897988541#32) * g (ix2 0 x) *
      w (ix3 0 x ⟨0 + (i 1).val, by have : (i 1).val < 3072 := (i 1).isLt; omega⟩) := by
  subst eh eg ew
  refine (dats m 0 c).arrAt_eq_of_covers 3 _ (by decide +kernel) fun t hf y => ?_
  blk_simp
  rw [after_3]
  pointwise [k0_pay1]
  simp only [Cert.OutProj.div_1024, rows, gain]
  blk_point [idx t]

/-- The slice of each prompt's last three rows, element by element. -/
theorem cut (A : Vec Idealize.ShloMosaic.Ideal S16384x3072 .f32) :
    broadcastInDim S1x8x3x3072 ![1, 2, 3] bcast_S8x3x3072_S1x8x3x3072_1_2_3 (extractStridedSlice S8x3x3072 ![0, 2045, 0]
      (fun i => shapeCast S8x2048x3072 A shapeCasts_S16384x3072_S8x2048x3072 i) slices_S8x2048x3072_S8x3x3072_0_2045_0) =
    fun i : S1x8x3x3072.Idx => A (ix2 ⟨((i 1).val * 2048 + (2045 + (i 2).val)), by have : (i 1).val < 8 := (i 1).isLt; have : (i 2).val < 3 := (i 2).isLt; omega⟩ (i 3)) := by
  funext i
  pointwise
  try blk_ext []

/-- The convolution's new state, element by element. -/
theorem newconv (h : S8x2048x1024.Idx → EReal) (g : S1x1024.Idx → EReal) (w : S1x1024x7200.Idx → EReal)
    (eh : h = m (c.tc.loc main_arg0)) (eg : g = m (c.tc.loc main_arg1)) (ew : w = m (c.tc.loc main_arg2)) :
    Pipeline.afterTail₀ cfgs (dats m) 0 (V0 m) [hostOps1] c main_v19 = fun i : S1x8x3x3072.Idx => ∑ x : Fin 1024,
    h (ix3 ⟨((i 1).val * 2048 + (2045 + (i 2).val)) / 2048, by have : (i 1).val < 8 := (i 1).isLt; have : (i 2).val < 3 := (i 2).isLt; omega⟩ ⟨((i 1).val * 2048 + (2045 + (i 2).val)) % 2048, by omega⟩ x) * Ideal.rsqrt ((∑ x : Fin 1024, h (ix3 ⟨((i 1).val * 2048 + (2045 + (i 2).val)) / 2048, by have : (i 1).val < 8 := (i 1).isLt; have : (i 2).val < 3 := (i 2).isLt; omega⟩ ⟨((i 1).val * 2048 + (2045 + (i 2).val)) % 2048, by omega⟩ x) * h (ix3 ⟨((i 1).val * 2048 + (2045 + (i 2).val)) / 2048, by have : (i 1).val < 8 := (i 1).isLt; have : (i 2).val < 3 := (i 2).isLt; omega⟩ ⟨((i 1).val * 2048 + (2045 + (i 2).val)) % 2048, by omega⟩ x)) * Ideal.ofBits FTy.f32 981467136#32 +
      Ideal.ofBits FTy.f32 897988541#32) * g (ix2 0 x) *
      w (ix3 0 x ⟨0 + (i 3).val, by have : (i 3).val < 3072 := (i 3).isLt; omega⟩) := by
  rw [tail, qkv m c h g w eh eg ew]
  exact cut _

set_option maxHeartbeats 8000000 in
/-- Every block the even layer's projection leaves is the reference's block. -/
theorem algebraic : Cert.algebraic_KernelIdeal_ReferenceIdeal := by
  pair_intro
  · run_from Cert.KernelIdeal.Gen.run_main m g
    all_goals first | exact W_main_arg0 m (dats m) c | exact W_main_arg1 m (dats m) c | exact W_main_arg2 m (dats m) c
  · hlo_run
    · symm
      refine (dats m 0 c).arrAt_eq_of_covers 3 _ (by decide +kernel) fun t hf y => ?_
      blk_simp
      rw [after_3]
      pointwise [k0_pay1]
      simp only [Cert.OutProj.div_1024, rows, gain]
      blk_point [idx t]
    · symm
      refine (dats m 0 c).arrAt_eq_of_covers 4 _ (by decide +kernel) fun t hf y => ?_
      blk_simp
      rw [after_4]
      pointwise [k0_pay1]
      simp only [Cert.OutProj.div_1024, rows, gain]
      blk_point [idx t]
    · symm
      refine (dats m 0 c).arrAt_eq_of_covers 5 _ (by decide +kernel) fun t hf y => ?_
      blk_simp
      rw [after_5]
      pointwise [k0_pay1]
      simp only [Cert.OutProj.div_1024, rows, gain]
      blk_point [idx t]
    · symm
      refine (dats m 0 c).arrAt_eq_of_covers 6 _ (by decide +kernel) fun t hf y => ?_
      blk_simp
      rw [after_6]
      pointwise [k0_pay1]
      simp only [Cert.OutProj.div_1024, rows, gain]
      blk_point [idx t]
    · symm
      refine (dats m 0 c).arrAt_eq_of_covers 7 _ (by decide +kernel) fun t hf y => ?_
      blk_simp
      rw [after_7]
      pointwise [k0_pay1]
      simp only [Cert.OutProj.div_1024, rows, gain]
      blk_point [idx t]
    · symm
      refine (dats m 0 c).arrAt_eq_of_covers 8 _ (by decide +kernel) fun t hf y => ?_
      blk_simp
      rw [after_8]
      pointwise [k0_pay1]
      simp only [Cert.OutProj.div_1024, rows, gain]
      blk_point [idx t]
    · symm
      refine (dats m 0 c).arrAt_eq_of_covers 9 _ (by decide +kernel) fun t hf y => ?_
      simp only [StableHlo.TRef.toBuf, StableHlo.TRef.ofBuf, cast_eq]
      blk_simp
      rw [after_9]
      pointwise [k0_pay1]
      simp only [Cert.OutProj.div_1024, rows, gain]
      have e : (((View.whole main_v16_6).slice (win0_9.rect t)).emb y 1).val = (y 1).val := by
        blk_point [idx t]
      by_cases h : (y 1).val < 16
      · rw [dif_pos (by rw [e]; exact h)]
        simp only [dif_pos h]
        blk_point [idx t]
      · rw [dif_neg (by rw [e]; exact h)]
        simp only [dif_neg h, mul_zero, Finset.sum_const_zero]
        show (0 : EReal) = (((0#32).toInt : ℝ) : EReal)
        simp
    · symm
      refine (dats m 0 c).arrAt_eq_of_covers 10 _ (by decide +kernel) fun t hf y => ?_
      simp only [StableHlo.TRef.toBuf, StableHlo.TRef.ofBuf, cast_eq]
      blk_simp
      rw [after_10]
      pointwise [k0_pay1]
      simp only [Cert.OutProj.div_1024, rows, gain]
      have e : (((View.whole main_v16_7).slice (win0_10.rect t)).emb y 1).val = (y 1).val := by
        blk_point [idx t]
      by_cases h : (y 1).val < 16
      · rw [dif_pos (by rw [e]; exact h)]
        simp only [dif_pos h]
        blk_point [idx t]
      · rw [dif_neg (by rw [e]; exact h)]
        simp only [dif_neg h, mul_zero, Finset.sum_const_zero]
        show (0 : EReal) = (((0#32).toInt : ℝ) : EReal)
        simp
    · rw [newconv m c _ _ _ rfl rfl rfl]
      funext i
      pointwise
      simp only [Cert.OutProj.div_1024]

end Cert.EvenProj

end
-- ==== Proof.OddProj.lean ====
/- The input projection of the odd layer (`kernel2`): the RMS norm of the rows with its gain, times the packed weights, tile of
   columns by tile of columns, equals the reference's norm, product and column slices over the extended reals. -/
module
public import proofs.«01_k».proof.Defs
public import proofs.«01_k».proof.Proof.Gen.Kernel2Ideal.Frame
public import proofs.«01_k».proof.Proof.Gen.Reference2Ideal
public import proofs.«01_k».proof.Proof.OutProj
public import Idealize.ShloMosaic.Lib.Claim
public import Idealize.ShloMosaic.Lib.IdealHost
public import Idealize.ShloMosaic.Lib.Pipeline.ValueKit
@[expose] public section
set_option maxRecDepth 16384
noncomputable section

namespace Cert.OddProj

open Idealize.ShloMosaic Idealize.SL.Sem
open Cert.Kernel2Ideal Cert.Kernel2Ideal.Gen

/-- Which block each window is at, point by point. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] :=
  (by decide +kernel : ∀ t : Fin grid0.N, _)

variable (m : (ℓ : Loc nD τ sig) → Buf (Elt Idealize.ShloMosaic.Ideal) ℓ) (c : Dev nD)

/-- The rows the launch reads. -/
theorem V_rows (i : S16384x1024.Idx) : V m c main_v0 i = m (c.tc.loc main_arg0)
    (ix3 ⟨(i 0).val / 2048, by have : (i 0).val < 16384 := (i 0).isLt; omega⟩ ⟨(i 0).val % 2048, by omega⟩ (i 1)) := by
  simp only [V, V0, hostOps0, hostOps0_1, hostOps0_2, List.flatten_cons, List.flatten_nil, List.append_nil, List.cons_append, List.nil_append]
  entry_read
  pointwise

/-- The gain the launch reads. -/
theorem V_gain (i : S1x1024.Idx) : V m c main_v8 i = m (c.tc.loc main_arg1) (ix2 0 (i 1)) := by
  simp only [V, V0, hostOps0, hostOps0_1, hostOps0_2, List.flatten_cons, List.flatten_nil, List.append_nil, List.cons_append, List.nil_append]
  entry_read
  pointwise
  blk_ext

/-- What the host line has made before it packs the weights. -/
abbrev before : Valuation τ sig (Elt Idealize.ShloMosaic.Ideal) :=
  StableHlo.after (hostOps0 ++ (hostOps0_1)) fun b => m (c, b)

/-- The packed weights, piece by piece. -/
theorem V_pieces (k : Fin 1024) (j : Fin 5248) : V m c main_v7 (ix2 k j) =
    if h : j.val < 5120 then before m c (Proc.devRef .tc main_v3) (ix2 k ⟨j.val, h⟩)
    else before m c (Proc.devRef .tc main_v5) (ix2 k ⟨j.val - 5120, by omega⟩) := by
  have hV : V m c main_v7 = StableHlo.after hostOps0_2 (before m c) (Proc.devRef .tc main_v7) := rfl
  rw [hV]
  generalize before m c = σ
  simp only [hostOps0_2, StableHlo.after_cons, StableHlo.after_nil]
  rw [StableHlo.reshape_result_ne (h := by decide), StableHlo.unary_result, StableHlo.binary_result]
  pointwise

/-- The columns from 0. -/
theorem piece_v3 (k : Fin 1024) (j : Fin 5120) : before m c (Proc.devRef .tc main_v3) (ix2 k j) =
    m (c.tc.loc main_arg2) (ix3 0 k ⟨0 + j.val, by omega⟩) := by
  simp only [before, hostOps0, hostOps0_1, List.cons_append, List.nil_append]
  entry_read
  pointwise
  try blk_ext

/-- The narrow columns from 5120, padded. -/
theorem piece_v5 (k : Fin 1024) (j : Fin 128) : before m c (Proc.devRef .tc main_v5) (ix2 k j) =
    if h : j.val < 32 then m (c.tc.loc main_arg2) (ix3 0 k ⟨5120 + j.val, by omega⟩) else (0 : EReal) := by
  simp only [before, hostOps0, hostOps0_1, List.cons_append, List.nil_append]
  entry_read
  simp only [StableHlo.TRef.toBuf, StableHlo.TRef.ofBuf, cast_eq]
  pointwise
  rw [show (FloatOps.sitofp (F := Idealize.ShloMosaic.Ideal) FTy.f32 0#32 : EReal) = 0 from by show (((0#32).toInt : ℝ) : EReal) = 0; simp]

/-- The block of rows at a point. -/
theorem rows (t : Fin cfg0.N) (x : S256x1024.Idx) : iblk m c 0 t x = m (c.tc.loc main_arg0)
    (ix3 ⟨(t.val * 256 + (x 0).val) / 2048, by have : (x 0).val < 256 := (x 0).isLt; have : t.val < 64 := t.isLt; omega⟩
      ⟨(t.val * 256 + (x 0).val) % 2048, by omega⟩ (x 1)) := by
  show V m c main_v0 _ = _
  rw [V_rows]
  blk_ext [idx t]

/-- The gain at a point. -/
theorem gain (t : Fin cfg0.N) (x : S1x1024.Idx) : iblk m c 1 t x = m (c.tc.loc main_arg1) (ix2 0 (x 1)) := by
  show V m c main_v8 _ = _
  rw [V_gain]
  blk_ext [idx t]

/-- The packed weights at a point. -/
theorem weights (t : Fin cfg0.N) (x : S1024x5248.Idx) : iblk m c 2 t x = V m c main_v7 (ix2 (x 0) (x 1)) := by
  show V m c main_v7 _ = _
  blk_ext [idx t]

/-- The weights of output 3's columns. -/
theorem cols_3 (t : Fin cfg0.N) (y : S256x2048.Idx) (k : Fin 1024) : iblk m c 2 t (ix2 k ⟨0 + (y 1).val, by have : (y 1).val < 2048 := (y 1).isLt; omega⟩) =
    m (c.tc.loc main_arg2) (ix3 0 k ⟨0 + (y 1).val, by have : (y 1).val < 2048 := (y 1).isLt; omega⟩) := by
  have hy : (y 1).val < 2048 := (y 1).isLt
  rw [weights]
  show V m c main_v7 (ix2 k ⟨0 + (y 1).val, by have : (y 1).val < 2048 := (y 1).isLt; omega⟩) = _
  rw [V_pieces, dif_pos (by dsimp only; omega), piece_v3]
  blk_ext

/-- Output 3's block: the normalised rows times its columns of the packed weights. -/
theorem after_3 (t : Fin cfg0.N) (y : S256x2048.Idx) : (dats m 0 c).after 3 t y =
    ∑ k : Fin 1024, (k0_pay5 (iblk m c 0 t) (iblk m c 1 t) (ix2 (y 0) k) : EReal) * m (c.tc.loc main_arg2) (ix3 0 k ⟨0 + (y 1).val, by have : (y 1).val < 2048 := (y 1).isLt; omega⟩) := by
  simp only [← cols_3 m c t y]
  rw [after0_3]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  generalize k0_pay5 (iblk m c 0 t) (iblk m c 1 t) = u
  canon_tiles x h
  all_goals (pointwise [k0_pay6, k0_pay7, k0_pay8, k0_pay9]; blk_point [])

/-- The weights of output 4's columns. -/
theorem cols_4 (t : Fin cfg0.N) (y : S256x3072.Idx) (k : Fin 1024) : iblk m c 2 t (ix2 k ⟨2048 + (y 1).val, by have : (y 1).val < 3072 := (y 1).isLt; omega⟩) =
    m (c.tc.loc main_arg2) (ix3 0 k ⟨2048 + (y 1).val, by have : (y 1).val < 3072 := (y 1).isLt; omega⟩) := by
  have hy : (y 1).val < 3072 := (y 1).isLt
  rw [weights]
  show V m c main_v7 (ix2 k ⟨2048 + (y 1).val, by have : (y 1).val < 3072 := (y 1).isLt; omega⟩) = _
  rw [V_pieces, dif_pos (by dsimp only; omega), piece_v3]
  blk_ext

/-- Output 4's block: the normalised rows times its columns of the packed weights. -/
theorem after_4 (t : Fin cfg0.N) (y : S256x3072.Idx) : (dats m 0 c).after 4 t y =
    ∑ k : Fin 1024, (k0_pay5 (iblk m c 0 t) (iblk m c 1 t) (ix2 (y 0) k) : EReal) * m (c.tc.loc main_arg2) (ix3 0 k ⟨2048 + (y 1).val, by have : (y 1).val < 3072 := (y 1).isLt; omega⟩) := by
  simp only [← cols_4 m c t y]
  rw [after0_4]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  generalize k0_pay5 (iblk m c 0 t) (iblk m c 1 t) = u
  canon_tiles x h
  all_goals (pointwise [k0_pay10, k0_pay11, k0_pay12, k0_pay1, k0_pay2, k0_pay3]; blk_point [])

/-- The weights of output 5's columns. -/
theorem cols_5 (t : Fin cfg0.N) (y : S256x128.Idx) (k : Fin 1024) : iblk m c 2 t (ix2 k ⟨5120 + (y 1).val, by have : (y 1).val < 128 := (y 1).isLt; omega⟩) =
    (if h : (y 1).val < 32 then m (c.tc.loc main_arg2) (ix3 0 k ⟨5120 + (y 1).val, by omega⟩) else (0 : EReal)) := by
  have hy : (y 1).val < 128 := (y 1).isLt
  rw [weights]
  show V m c main_v7 (ix2 k ⟨5120 + (y 1).val, by have : (y 1).val < 128 := (y 1).isLt; omega⟩) = _
  rw [V_pieces, dif_neg (by dsimp only; omega), piece_v5]
  simp only [Nat.add_sub_cancel_left]

/-- Output 5's block: the normalised rows times its columns of the packed weights. -/
theorem after_5 (t : Fin cfg0.N) (y : S256x128.Idx) : (dats m 0 c).after 5 t y =
    ∑ k : Fin 1024, (k0_pay5 (iblk m c 0 t) (iblk m c 1 t) (ix2 (y 0) k) : EReal) * (if h : (y 1).val < 32 then m (c.tc.loc main_arg2) (ix3 0 k ⟨5120 + (y 1).val, by omega⟩) else (0 : EReal)) := by
  simp only [← cols_5 m c t y]
  rw [after0_5]
  frame_out
  generalize k0_pay5 (iblk m c 0 t) (iblk m c 1 t) = u
  pointwise [k0_pay4]
  try blk_point []

/-- The convolution's new state is cut out of the array that window 4 fills: each prompt's last three rows. -/
theorem tail : Pipeline.afterTail₀ cfgs (dats m) 0 (V0 m) [hostOps1] c main_v12 =
    broadcastInDim S1x8x3x3072 ![1, 2, 3] bcast_S8x3x3072_S1x8x3x3072_1_2_3 (extractStridedSlice S8x3x3072 ![0, 2045, 0]
      (fun i => shapeCast S8x2048x3072 ((dats m 0 c).arrAt 4 (cfgs 0).N) shapeCasts_S16384x3072_S8x2048x3072 i) slices_S8x2048x3072_S8x3x3072_0_2045_0) := by
  unfold Pipeline.afterTail₀
  have h := Pipeline.withArrays_arr (cfgs 0).spec winFacts0.arr_inj c (V0 m c) (fun w => (dats m 0 c).arrAt w (cfgs 0).N) 4
  rw [← h]
  generalize Pipeline.withArrays (cfgs 0).spec c (V0 m c) (fun w => (dats m 0 c).arrAt w (cfgs 0).N) = σ
  simp only [hostOps1, List.flatten_cons, List.flatten_nil, List.append_nil]
  after_results
  rfl

/-- The array that window 4 fills, element by element. -/
theorem xbc (h : S8x2048x1024.Idx → EReal) (g : S1x1024.Idx → EReal) (w : S1x1024x5152.Idx → EReal)
    (eh : h = m (c.tc.loc main_arg0)) (eg : g = m (c.tc.loc main_arg1)) (ew : w = m (c.tc.loc main_arg2)) :
    (dats m 0 c).arrAt 4 (cfgs 0).N = fun i : S16384x3072.Idx => ∑ x : Fin 1024,
    h (ix3 ⟨(i 0).val / 2048, by have : (i 0).val < 16384 := (i 0).isLt; omega⟩ ⟨(i 0).val % 2048, by omega⟩ x) * Ideal.rsqrt ((∑ x : Fin 1024, h (ix3 ⟨(i 0).val / 2048, by have : (i 0).val < 16384 := (i 0).isLt; omega⟩ ⟨(i 0).val % 2048, by omega⟩ x) * h (ix3 ⟨(i 0).val / 2048, by have : (i 0).val < 16384 := (i 0).isLt; omega⟩ ⟨(i 0).val % 2048, by omega⟩ x)) * Ideal.ofBits FTy.f32 981467136#32 +
      Ideal.ofBits FTy.f32 897988541#32) * g (ix2 0 x) *
      w (ix3 0 x ⟨2048 + (i 1).val, by have : (i 1).val < 3072 := (i 1).isLt; omega⟩) := by
  subst eh eg ew
  refine (dats m 0 c).arrAt_eq_of_covers 4 _ (by decide +kernel) fun t hf y => ?_
  blk_simp
  rw [after_4]
  pointwise [k0_pay5]
  simp only [Cert.OutProj.div_1024, rows, gain]
  blk_point [idx t]

/-- The slice of each prompt's last three rows, element by element. -/
theorem cut (A : Vec Idealize.ShloMosaic.Ideal S16384x3072 .f32) :
    broadcastInDim S1x8x3x3072 ![1, 2, 3] bcast_S8x3x3072_S1x8x3x3072_1_2_3 (extractStridedSlice S8x3x3072 ![0, 2045, 0]
      (fun i => shapeCast S8x2048x3072 A shapeCasts_S16384x3072_S8x2048x3072 i) slices_S8x2048x3072_S8x3x3072_0_2045_0) =
    fun i : S1x8x3x3072.Idx => A (ix2 ⟨((i 1).val * 2048 + (2045 + (i 2).val)), by have : (i 1).val < 8 := (i 1).isLt; have : (i 2).val < 3 := (i 2).isLt; omega⟩ (i 3)) := by
  funext i
  pointwise
  try blk_ext []

/-- The convolution's new state, element by element. -/
theorem newconv (h : S8x2048x1024.Idx → EReal) (g : S1x1024.Idx → EReal) (w : S1x1024x5152.Idx → EReal)
    (eh : h = m (c.tc.loc main_arg0)) (eg : g = m (c.tc.loc main_arg1)) (ew : w = m (c.tc.loc main_arg2)) :
    Pipeline.afterTail₀ cfgs (dats m) 0 (V0 m) [hostOps1] c main_v12 = fun i : S1x8x3x3072.Idx => ∑ x : Fin 1024,
    h (ix3 ⟨((i 1).val * 2048 + (2045 + (i 2).val)) / 2048, by have : (i 1).val < 8 := (i 1).isLt; have : (i 2).val < 3 := (i 2).isLt; omega⟩ ⟨((i 1).val * 2048 + (2045 + (i 2).val)) % 2048, by omega⟩ x) * Ideal.rsqrt ((∑ x : Fin 1024, h (ix3 ⟨((i 1).val * 2048 + (2045 + (i 2).val)) / 2048, by have : (i 1).val < 8 := (i 1).isLt; have : (i 2).val < 3 := (i 2).isLt; omega⟩ ⟨((i 1).val * 2048 + (2045 + (i 2).val)) % 2048, by omega⟩ x) * h (ix3 ⟨((i 1).val * 2048 + (2045 + (i 2).val)) / 2048, by have : (i 1).val < 8 := (i 1).isLt; have : (i 2).val < 3 := (i 2).isLt; omega⟩ ⟨((i 1).val * 2048 + (2045 + (i 2).val)) % 2048, by omega⟩ x)) * Ideal.ofBits FTy.f32 981467136#32 +
      Ideal.ofBits FTy.f32 897988541#32) * g (ix2 0 x) *
      w (ix3 0 x ⟨2048 + (i 3).val, by have : (i 3).val < 3072 := (i 3).isLt; omega⟩) := by
  rw [tail, xbc m c h g w eh eg ew]
  exact cut _

set_option maxHeartbeats 1600000 in
/-- Every block the odd layer's projection leaves is the reference's block. -/
theorem algebraic : Cert.algebraic_Kernel2Ideal_Reference2Ideal := by
  pair_intro
  · run_from Cert.Kernel2Ideal.Gen.run_main m g
    all_goals first | exact W_main_arg0 m (dats m) c | exact W_main_arg1 m (dats m) c | exact W_main_arg2 m (dats m) c
  · hlo_run
    · symm
      refine (dats m 0 c).arrAt_eq_of_covers 3 _ (by decide +kernel) fun t hf y => ?_
      blk_simp
      rw [after_3]
      pointwise [k0_pay5]
      simp only [Cert.OutProj.div_1024, rows, gain]
      blk_point [idx t]
    · symm
      refine (dats m 0 c).arrAt_eq_of_covers 4 _ (by decide +kernel) fun t hf y => ?_
      blk_simp
      rw [after_4]
      pointwise [k0_pay5]
      simp only [Cert.OutProj.div_1024, rows, gain]
      blk_point [idx t]
    · symm
      refine (dats m 0 c).arrAt_eq_of_covers 5 _ (by decide +kernel) fun t hf y => ?_
      simp only [StableHlo.TRef.toBuf, StableHlo.TRef.ofBuf, cast_eq]
      blk_simp
      rw [after_5]
      pointwise [k0_pay5]
      simp only [Cert.OutProj.div_1024, rows, gain]
      have e : (((View.whole main_v9_2).slice (win0_5.rect t)).emb y 1).val = (y 1).val := by
        blk_point [idx t]
      by_cases h : (y 1).val < 32
      · rw [dif_pos (by rw [e]; exact h)]
        simp only [dif_pos h]
        blk_point [idx t]
      · rw [dif_neg (by rw [e]; exact h)]
        simp only [dif_neg h, mul_zero, Finset.sum_const_zero]
        show (0 : EReal) = (((0#32).toInt : ℝ) : EReal)
        simp
    · rw [newconv m c _ _ _ rfl rfl rfl]
      funext i
      pointwise
      simp only [Cert.OutProj.div_1024]

end Cert.OddProj

end
-- ==== Proof.GlaStep.lean ====
module
public import proofs.«01_k».proof.Defs
public import proofs.«01_k».proof.Proof.Gen.Kernel5Ideal.Frame
public import proofs.«01_k».proof.Proof.Gen.Reference5Ideal
public import Idealize.ShloMosaic.Lib.Claim
public import Idealize.ShloMosaic.Lib.IdealHost
public import Idealize.ShloMosaic.Lib.Routing.OpsPair
public import Idealize.ShloMosaic.Lib.Routing.OpsSet
public import Idealize.ShloMosaic.Lib.Pipeline.ValueKit
@[expose] public section
set_option maxRecDepth 16384
noncomputable section

namespace Cert.GlaStep

open Idealize.ShloMosaic Idealize.SL.Sem
open Cert.Kernel5Ideal Cert.Kernel5Ideal.Gen

/-- A row of the identity matrix picks one entry out of a sum. -/
theorem pick (d : Fin 128) (f : Fin 128 → EReal) :
    ∑ x : Fin 128, (((BitVec.setWidth 32 (IntOp.cmpi CmpIPredicate.eq (BitVec.ofNat 32 d.val) (BitVec.ofNat 32 x.val))).toInt : ℝ) : EReal) * f x = f d := by
  have one : ∀ x : Fin 128, (((BitVec.setWidth 32 (IntOp.cmpi CmpIPredicate.eq (BitVec.ofNat 32 d.val) (BitVec.ofNat 32 x.val))).toInt : ℝ) : EReal) =
      if d = x then 1 else 0 := by
    intro x
    by_cases h : d = x
    · subst h
      rw [if_pos rfl]
      have e : BitVec.setWidth 32 (IntOp.cmpi CmpIPredicate.eq (BitVec.ofNat 32 d.val) (BitVec.ofNat 32 d.val)) = 1#32 := by
        simp [IntOp.cmpi]
      rw [e]
      norm_num
    · rw [if_neg h]
      have ne : BitVec.ofNat 32 d.val ≠ BitVec.ofNat 32 x.val := by
        intro q
        apply h
        have := congrArg BitVec.toNat q
        simp only [BitVec.toNat_ofNat] at this
        exact Fin.ext (by omega)
      have e : BitVec.setWidth 32 (IntOp.cmpi CmpIPredicate.eq (BitVec.ofNat 32 d.val) (BitVec.ofNat 32 x.val)) = 0#32 := by
        simp only [IntOp.cmpi, beq_eq_false_iff_ne.2 ne]; rfl
      rw [e]
      norm_num
  simp only [one, ite_mul, one_mul, zero_mul]
  simp

/-- The columns of the turned operands: the keys and the scaled queries. -/
theorem cols_kq (a : Vec Idealize.ShloMosaic.Ideal S1x512 .f32) (b : Vec Idealize.ShloMosaic.Ideal S8x128 .f32) (kq : Vec Idealize.ShloMosaic.Ideal S1x8x128 .f32) (d : Fin 128) (j : Fin 8) :
    (k0_pay5 (F := Idealize.ShloMosaic.Ideal) a (iota .tc S8x128 32 [0] iota_S8x128_d0_w32) b k0_pay4 kq (ix2 d ⟨j.val, by omega⟩) : EReal) =
    if j.val < 4 then kq (ix3 0 j d) else (kq (ix3 0 j d) : EReal) * Ideal.ofBits FTy.f32 0x3DB504F3#32 := by
  pointwise [k0_pay5, k0_pay4]
  refine (pick d _).trans ?_
  fin_cases j <;> simp [IntOp.cmpi, Scalar.select]

/-- The columns of the turned operands: the four heads' decays. -/
theorem cols_a (v0 : Vec Idealize.ShloMosaic.Ideal S1x1x128 .f32) (v4 : Vec Idealize.ShloMosaic.Ideal S128x512 .bf16) (v9 : Vec Idealize.ShloMosaic.Ideal S1x512 .f32) (kq : Vec Idealize.ShloMosaic.Ideal S1x8x128 .f32) (d : Fin 128) (j : Fin 4) :
    (k0_pay5 (F := Idealize.ShloMosaic.Ideal) (k0_pay2 v0 v4 v9) (iota .tc S8x128 32 [0] iota_S8x128_d0_w32) (k0_pay3 v0 v4 v9) k0_pay4 kq (ix2 d ⟨8 + j.val, by omega⟩) : EReal) =
    k0_pay2 v0 v4 v9 (ix2 0 ⟨j.val * 128 + d.val, by omega⟩) := by
  unfold k0_pay3
  generalize k0_pay2 v0 v4 v9 = a
  pointwise [k0_pay5, k0_pay4]
  refine (pick d _).trans ?_
  fin_cases j <;> simp [IntOp.cmpi, Scalar.select]

/-- Dividing by 16 is multiplying by 1/16, of any extended real. -/
theorem div_16 (x : EReal) : Ideal.div x (Ideal.ofBits FTy.f32 0x41800000#32) = x * Ideal.ofBits FTy.f32 0x3D800000#32 := by
  have h : Ideal.ofBits FTy.f32 0x41800000#32 = ((16 : ℝ) : EReal) := by
    simp [Ideal.ofBits, Ideal.ieee, -EReal.coe_mul]; norm_num
  have h' : Ideal.ofBits FTy.f32 0x3D800000#32 = ((1 / 16 : ℝ) : EReal) := by
    simp [Ideal.ofBits, Ideal.ieee, -EReal.coe_mul]; norm_num
  rw [h, h', Ideal.div_coe (by norm_num)]

/-- Dividing by 256 is multiplying by 1/256, of any extended real. -/
theorem div_256 (x : EReal) : Ideal.div x (Ideal.ofBits FTy.f32 0x43800000#32) = x * Ideal.ofBits FTy.f32 0x3B800000#32 := by
  have h : Ideal.ofBits FTy.f32 0x43800000#32 = ((256 : ℝ) : EReal) := by
    simp [Ideal.ofBits, Ideal.ieee, -EReal.coe_mul]; norm_num
  have h' : Ideal.ofBits FTy.f32 0x3B800000#32 = ((1 / 256 : ℝ) : EReal) := by
    simp [Ideal.ofBits, Ideal.ieee, -EReal.coe_mul]; norm_num
  rw [h, h', Ideal.div_coe (by norm_num)]

/-- A sum of 128 products whose second factors are zero from the seventeenth on is the sum of the first sixteen. -/
theorem sum_widened (f : Fin 128 → EReal) (g : Fin 16 → EReal) :
    ∑ k : Fin 128, f k * (if h : k.val < 16 then g ⟨k.val, h⟩ else 0) = ∑ k : Fin 16, f ⟨k.val, by omega⟩ * g k := by
  refine (Fin.sum_univ_add (a := 16) (b := 112) _).trans ?_
  have z : ∑ i : Fin 112, f (Fin.natAdd 16 i) * (if h : (Fin.natAdd 16 i).val < 16 then g ⟨(Fin.natAdd 16 i).val, h⟩ else 0) = 0 :=
    Finset.sum_eq_zero fun i _ => by rw [dif_neg (by simp), mul_zero]
  rw [z, add_zero]
  refine Finset.sum_congr rfl fun k _ => ?_
  rw [dif_pos (by simp)]
  rfl

/-- The widened low-rank weights, entry by entry: the sixteen given rows, then rows of zeros. -/
theorem widened (x : S128x512.Idx → EReal) (i : IVec S1 32) (u : S16x512.Idx → EReal) (hi : (i (ix1 0)).toInt = 0) (r : Fin 128) (e : Fin 512) :
    Host.scatter scatter_S128x512_S1_S16x512_01_n_0_0 (fun _ b => b) x i u (ix2 r e) =
      if h : r.val < 16 then u (ix2 ⟨r.val, h⟩ e) else x (ix2 r e) := by
  have lands : ∀ k : S16x512.Idx, scatter_S128x512_S1_S16x512_01_n_0_0.resultIdx? k i = some (ix2 r e) ↔ (k 0).val = r.val ∧ (k 1).val = e.val := by
    intro k
    have s0 : scatter_S128x512_S1_S16x512_01_n_0_0.start k i 0 = 0 := by
      unfold ScatterDims.start
      rw [dif_pos (by decide)]
      refine Eq.trans (congrArg (fun j => (i j).toInt) ?_) hi
      funext b
      match b with
      | ⟨0, _⟩ => exact Subsingleton.elim (α := Fin 1) _ _
    have s1 : scatter_S128x512_S1_S16x512_01_n_0_0.start k i 1 = 0 := by
      unfold ScatterDims.start
      rw [dif_neg (by decide)]
    have w0 : scatter_S128x512_S1_S16x512_01_n_0_0.window k 0 = (k 0).val := by
      unfold ScatterDims.window
      rw [dif_pos (by decide)]
      rfl
    have w1 : scatter_S128x512_S1_S16x512_01_n_0_0.window k 1 = (k 1).val := by
      unfold ScatterDims.window
      rw [dif_pos (by decide)]
      rfl
    refine (Routing.resultIdx?_ix2 (R := 128) (C := 512) scatter_S128x512_S1_S16x512_01_n_0_0 k i r e).trans ?_
    erw [s0, s1, w0, w1]
    omega
  by_cases h : r.val < 16
  · rw [dif_pos h]
    refine Routing.scatter_set_hit _ x i u _ _ (fun k hk => ?_) (ix2 ⟨r.val, h⟩ e) ((lands _).2 ⟨rfl, rfl⟩)
    obtain ⟨a, b⟩ := (lands k).1 hk
    refine congrArg u ?_
    funext q
    match q with
    | ⟨0, _⟩ => exact Fin.ext a
    | ⟨1, _⟩ => exact Fin.ext b
  · rw [dif_neg h]
    refine Routing.scatter_set_miss _ x i u _ fun k hk => h ?_
    have q : (k 0).val < 16 := (k 0).isLt
    have := ((lands k).1 hk).1
    omega

/-- The first row written. -/
theorem zero_word : ((broadcastInDim S1 ![] bcast_S_S1 (constantI S_ 32 0#32) : IVec S1 32) (ix1 0)).toInt = 0 := by
  unfold broadcastInDim constantI
  decide

variable (m : (ℓ : Loc nD τ sig) → Buf (Elt Idealize.ShloMosaic.Ideal) ℓ) (c : Dev nD)

/-- Which block each window is at, point by point. -/
theorem idx : ∀ t : Fin cfg0.N, win0_0.index t = ![t.val, 0, 0] ∧ win0_1.index t = ![t.val, 0, 0] ∧ win0_2.index t = ![t.val, 0, 0] ∧ win0_3.index t = ![t.val, 0, 0] ∧ win0_4.index t = ![t.val, 0, 0, 0] ∧ win0_5.index t = ![0, 0] ∧ win0_6.index t = ![0, 0] ∧ win0_7.index t = ![0, 0] ∧ win0_8.index t = ![t.val, 0, 0] ∧ win0_9.index t = ![t.val, 0, 0, 0] :=
  (by decide +kernel : ∀ t : Fin grid0.N, _)

/-- The keys and queries the launch reads. -/
theorem V5 (i : S128x8x128.Idx) : V m c main_v5 i = if h : (i 1).val < 4
    then m (c.tc.loc main_arg1) (ix2 (i 0) ⟨(i 1).val * 128 + (i 2).val, by have : (i 2).val < 128 := (i 2).isLt; omega⟩)
    else m (c.tc.loc main_arg0) (ix2 (i 0) ⟨((i 1).val - 4) * 128 + (i 2).val, by have : (i 1).val < 8 := (i 1).isLt; have : (i 2).val < 128 := (i 2).isLt; omega⟩) := by
  simp only [V, V0, hostOps0, List.flatten_cons, List.flatten_nil, List.append_nil]
  entry_read
  pointwise
  have l1 : (i 1).val < 8 := (i 1).isLt
  have l2 : (i 2).val < 128 := (i 2).isLt
  by_cases h : (i 1).val < 4
  · rw [dif_pos h, dif_pos (by omega)]
  · rw [dif_neg h, dif_neg (by omega)]
    blk_ext

/-- The low-rank weights the launch reads, widened. -/
theorem V12 (r : Fin 128) (e : Fin 512) : V m c main_v12 (ix2 r e) = if h : r.val < 16
    then m (c.tc.loc main_arg6) (ix3 0 ⟨r.val, h⟩ e) else (0 : EReal) := by
  simp only [V, V0, hostOps0, List.flatten_cons, List.flatten_nil, List.append_nil]
  entry_read
  rw [truncf_apply, widened _ _ _ zero_word r e]
  by_cases h : r.val < 16
  · rw [dif_pos h, dif_pos h]
    pointwise
    try blk_ext
  · rw [dif_neg h, dif_neg h]
    pointwise

theorem V6 (i : S128x4x256.Idx) : V m c main_v6 i = m (c.tc.loc main_arg2)
    (ix2 (i 0) ⟨(i 1).val * 256 + (i 2).val, by have : (i 1).val < 4 := (i 1).isLt; have : (i 2).val < 256 := (i 2).isLt; omega⟩) := by
  simp only [V, V0, hostOps0, List.flatten_cons, List.flatten_nil, List.append_nil]
  entry_read
  pointwise
  try blk_ext
theorem V7 (i : S128x4x256.Idx) : V m c main_v7 i = m (c.tc.loc main_arg3)
    (ix2 (i 0) ⟨(i 1).val * 256 + (i 2).val, by have : (i 1).val < 4 := (i 1).isLt; have : (i 2).val < 256 := (i 2).isLt; omega⟩) := by
  simp only [V, V0, hostOps0, List.flatten_cons, List.flatten_nil, List.append_nil]
  entry_read
  pointwise
  try blk_ext
theorem V8 (i : S128x1x128.Idx) : V m c main_v8 i = m (c.tc.loc main_arg4) (ix2 (i 0) (i 2)) := by
  simp only [V, V0, hostOps0, List.flatten_cons, List.flatten_nil, List.append_nil]
  entry_read
  pointwise
  try blk_ext
theorem V0' (i : S128x4x128x256.Idx) : V m c main_v0 i = m (c.tc.loc main_arg5) (ix5 0 (i 0) (i 1) (i 2) (i 3)) := by
  simp only [V, V0, hostOps0, List.flatten_cons, List.flatten_nil, List.append_nil]
  entry_read
  pointwise
  try blk_ext
theorem V13 (i : S1x512.Idx) : V m c main_v13 i = m (c.tc.loc main_arg7) (ix2 0 (i 1)) := by
  simp only [V, V0, hostOps0, List.flatten_cons, List.flatten_nil, List.append_nil]
  entry_read
  pointwise
  try blk_ext
theorem V14 (i : S1x256.Idx) : V m c main_v14 i = m (c.tc.loc main_arg8) (ix2 0 (i 1)) := by
  simp only [V, V0, hostOps0, List.flatten_cons, List.flatten_nil, List.append_nil]
  entry_read
  pointwise
  try blk_ext

/-- A sample's blocks of the values, and of the state. -/
def vals (t : Fin cfg0.N) : FVec Idealize.ShloMosaic.Ideal S1x4x256 .f32 := iblk m c 1 t
def olds (t : Fin cfg0.N) : FVec Idealize.ShloMosaic.Ideal S1x4x128x256 .f32 := iblk m c 4 t
def keys (t : Fin cfg0.N) : FVec Idealize.ShloMosaic.Ideal S1x8x128 .f32 := iblk m c 0 t

/-- The sample's decays. -/
def decay (t : Fin cfg0.N) : S1x512.Idx → EReal := k0_pay2 (F := Idealize.ShloMosaic.Ideal) (iblk m c 3 t) (iblk m c 5 t) (iblk m c 6 t)

/-- The sample's new state. -/
def state (t : Fin cfg0.N) (h : Fin 4) (d : Fin 128) (e : Fin 256) : EReal :=
  (decay m c t (ix2 0 ⟨h.val * 128 + d.val, by omega⟩) : EReal) * (olds m c t (ix4 0 h d e) : EReal) + (keys m c t (ix3 0 ⟨h.val, by omega⟩ d) : EReal) * (vals m c t (ix3 0 h e) : EReal)

/-- The turned operands, a column each. -/
def cols (t : Fin cfg0.N) : FVec Idealize.ShloMosaic.Ideal S128x16 .f32 :=
  k0_pay5 (k0_pay2 (iblk m c 3 t) (iblk m c 5 t) (iblk m c 6 t)) (iota .tc S8x128 32 [0] iota_S8x128_d0_w32) (k0_pay3 (iblk m c 3 t) (iblk m c 5 t) (iblk m c 6 t)) k0_pay4 (iblk m c 0 t)

theorem cols_k (t : Fin cfg0.N) (h : Fin 4) (d : Fin 128) : cols m c t (ix2 d ⟨h.val, by omega⟩) = keys m c t (ix3 0 ⟨h.val, by omega⟩ d) := by
  refine (cols_kq _ _ _ d ⟨h.val, by omega⟩).trans ?_
  rw [if_pos (by dsimp only; omega)]
  rfl

theorem cols_d (t : Fin cfg0.N) (h : Fin 4) (d : Fin 128) : cols m c t (ix2 d ⟨8 + h.val, by omega⟩) = decay m c t (ix2 0 ⟨h.val * 128 + d.val, by omega⟩) :=
  cols_a _ _ _ _ d h

theorem cols_q (t : Fin cfg0.N) (h : Fin 4) (d : Fin 128) : cols m c t (ix2 d ⟨4 + h.val, by omega⟩) = (keys m c t (ix3 0 ⟨4 + h.val, by omega⟩ d) : EReal) * Ideal.ofBits FTy.f32 0x3DB504F3#32 := by
  refine (cols_kq _ _ _ d ⟨4 + h.val, by omega⟩).trans ?_
  rw [if_neg (by dsimp only; omega)]
  rfl

/-- The new state, from the turned operands. -/
theorem state_cols (t : Fin cfg0.N) (h : Fin 4) (d : Fin 128) (e : Fin 256) : state m c t h d e =
    (cols m c t (ix2 d ⟨8 + h.val, by omega⟩) : EReal) * (olds m c t (ix4 0 h d e) : EReal) + (cols m c t (ix2 d ⟨h.val, by omega⟩) : EReal) * (vals m c t (ix3 0 h e) : EReal) := by
  rw [cols_k, cols_d]
  rfl

/-- The new state a grid point leaves. -/
theorem after_9 (t : Fin cfg0.N) (y : S1x4x128x256.Idx) : (dats m 0 c).after 9 t y = state m c t (y 1) (y 2) (y 3) := by
  rw [after0_9]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  simp only [k0_pay9, k0_pay8, k0_pay7]
  refine Eq.trans ?_ (state_cols m c t (y 1) (y 2) (y 3)).symm
  have e : k0_pay5 (k0_pay2 (iblk m c 3 t) (iblk m c 5 t) (iblk m c 6 t)) (iota .tc S8x128 32 [0] iota_S8x128_d0_w32) (k0_pay3 (iblk m c 3 t) (iblk m c 5 t) (iblk m c 6 t)) k0_pay4 (iblk m c 0 t) = cols m c t := rfl
  have e1 : iblk m c 1 t = vals m c t := rfl
  have e4 : iblk m c 4 t = olds m c t := rfl
  rw [e, e1, e4]
  clear e e1 e4
  generalize cols m c t = C
  generalize vals m c t = b1
  generalize olds m c t = b4
  canon_tiles x h
  all_goals
    pointwise [k0_pay21, k0_pay20, k0_pay18, k0_pay17, k0_pay14, k0_pay16, k0_pay12, k0_pay11, k0_pay7, k0_pay6]
    blk_point []

/-- The output's gate and norm at an entry, from the values at its row. -/
theorem pay1_of (O f : FVec Idealize.ShloMosaic.Ideal S1x4x256 .f32) (g : Vec Idealize.ShloMosaic.Ideal S1x256 .f32) (z : Vec Idealize.ShloMosaic.Ideal S1x4x256 .f32) (h : ∀ i, O i = f i) :
    k0_pay1 O g z = k0_pay1 f g z := by rw [show O = f from funext h]

/-- The attention output before the norm. -/
def outp (t : Fin cfg0.N) : FVec Idealize.ShloMosaic.Ideal S1x4x256 .f32 := fun i =>
  (∑ d : Fin 128, (keys m c t (ix3 0 ⟨4 + (i 1).val, by have : (i 1).val < 4 := (i 1).isLt; omega⟩ d) : EReal) * Ideal.ofBits FTy.f32 0x3DB504F3#32 * state m c t (i 1) d (i 2) : EReal)

set_option maxHeartbeats 1600000 in
/-- The output a grid point leaves. -/
theorem after_8 (t : Fin cfg0.N) : (dats m 0 c).after 8 t = k0_pay1 (outp m c t) (iblk m c 7 t) (iblk m c 2 t) := by
  rw [after0_8]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  refine pay1_of _ _ _ _ fun i => ?_
  rw [View.readCov_eq_canon']
  have p : outp m c t i = ∑ d : Fin 128, (cols m c t (ix2 d ⟨4 + (i 1).val, by have : (i 1).val < 4 := (i 1).isLt; omega⟩) : EReal) * ((cols m c t (ix2 d ⟨8 + (i 1).val, by have : (i 1).val < 4 := (i 1).isLt; omega⟩) : EReal) * (olds m c t (ix4 0 (i 1) d (i 2)) : EReal) + (cols m c t (ix2 d ⟨(i 1).val, by have : (i 1).val < 4 := (i 1).isLt; omega⟩) : EReal) * (vals m c t (ix3 0 (i 1) (i 2)) : EReal)) := by
    refine Finset.sum_congr rfl fun d _ => ?_
    refine (congrArg (_ * ·) (state_cols m c t (i 1) d (i 2))).trans ?_
    exact congrArg (· * _) (cols_q m c t (i 1) d).symm
  rw [p]
  clear p
  simp only [k0_pay10, k0_pay9, k0_pay8, k0_pay7]
  have e : k0_pay5 (k0_pay2 (iblk m c 3 t) (iblk m c 5 t) (iblk m c 6 t)) (iota .tc S8x128 32 [0] iota_S8x128_d0_w32) (k0_pay3 (iblk m c 3 t) (iblk m c 5 t) (iblk m c 6 t)) k0_pay4 (iblk m c 0 t) = cols m c t := rfl
  have e1 : iblk m c 1 t = vals m c t := rfl
  have e4 : iblk m c 4 t = olds m c t := rfl
  rw [e, e1, e4]
  clear e e1 e4
  generalize cols m c t = C
  generalize vals m c t = b1
  generalize olds m c t = b4
  have at_i : (Rect.unit (s := S1x4x256) ![0, 0, 0] ![1, 4, 256] inb_S1x4x256_S1x4x256_0_0_0).toLoadRect.idx i = i := by
    funext a
    apply Fin.ext
    fin_cases a <;> simp [Rect.unit, Rect.toLoadRect, LoadRect.idx]
  rw [at_i]
  canon_tiles x h
  all_goals
    pointwise [k0_pay22, k0_pay19, k0_pay13, k0_pay21, k0_pay20, k0_pay18, k0_pay17, k0_pay14, k0_pay16, k0_pay12, k0_pay11, k0_pay7, k0_pay6]
    blk_point []

/-- The arguments: queries, keys, values, gates, low-rank columns, states, low-rank weights, their offsets, gains. -/
def aq : S128x512.Idx → EReal := m (c.tc.loc main_arg0)
def ak : S128x512.Idx → EReal := m (c.tc.loc main_arg1)
def av : S128x1024.Idx → EReal := m (c.tc.loc main_arg2)
def ag : S128x1024.Idx → EReal := m (c.tc.loc main_arg3)
def al : S128x128.Idx → EReal := m (c.tc.loc main_arg4)
def aS : S1x128x4x128x256.Idx → EReal := m (c.tc.loc main_arg5)
def aw : S1x16x512.Idx → EReal := m (c.tc.loc main_arg6)
def ab : S1x512.Idx → EReal := m (c.tc.loc main_arg7)
def an : S1x256.Idx → EReal := m (c.tc.loc main_arg8)

theorem keys_at (t : Fin cfg0.N) (h : Fin 4) (d : Fin 128) : keys m c t (ix3 0 ⟨h.val, by omega⟩ d) = ak m c (ix2 ⟨t.val, t.isLt⟩ ⟨h.val * 128 + d.val, by omega⟩) := by
  refine (show _ = V m c main_v5 (ix3 ⟨t.val, t.isLt⟩ ⟨h.val, by omega⟩ d) from ?_).trans ?_
  · unfold keys
    simp only [iblk]
    blk_ext [idx t]
  · rw [V5, dif_pos (by show h.val < 4; omega)]
    rfl
theorem queries_at (t : Fin cfg0.N) (h : Fin 4) (d : Fin 128) : keys m c t (ix3 0 ⟨4 + h.val, by omega⟩ d) = aq m c (ix2 ⟨t.val, t.isLt⟩ ⟨h.val * 128 + d.val, by omega⟩) := by
  refine (show _ = V m c main_v5 (ix3 ⟨t.val, t.isLt⟩ ⟨4 + h.val, by omega⟩ d) from ?_).trans ?_
  · unfold keys
    simp only [iblk]
    blk_ext [idx t]
  · rw [V5, dif_neg (by show ¬ 4 + h.val < 4; omega)]
    unfold aq
    blk_ext []
theorem vals_at (t : Fin cfg0.N) (h : Fin 4) (e : Fin 256) : vals m c t (ix3 0 h e) = av m c (ix2 ⟨t.val, t.isLt⟩ ⟨h.val * 256 + e.val, by omega⟩) := by
  show V m c main_v6 _ = _
  rw [V6]
  unfold av
  blk_ext [idx t]
theorem olds_at (t : Fin cfg0.N) (h : Fin 4) (d : Fin 128) (e : Fin 256) : olds m c t (ix4 0 h d e) = aS m c (ix5 0 ⟨t.val, t.isLt⟩ h d e) := by
  show V m c main_v0 _ = _
  rw [V0']
  unfold aS
  blk_ext [idx t]
theorem gate_at (t : Fin cfg0.N) (h : Fin 4) (e : Fin 256) : iblk m c 2 t (ix3 0 h e) = ag m c (ix2 ⟨t.val, t.isLt⟩ ⟨h.val * 256 + e.val, by omega⟩) := by
  show V m c main_v7 _ = _
  rw [V7]
  unfold ag
  blk_ext [idx t]
theorem lr_at (t : Fin cfg0.N) (k : Fin 128) : iblk m c 3 t (ix3 0 0 k) = al m c (ix2 ⟨t.val, t.isLt⟩ k) := by
  show V m c main_v8 _ = _
  rw [V8]
  unfold al
  blk_ext [idx t]
theorem wlr_at (t : Fin cfg0.N) (k : Fin 128) (e : Fin 512) : iblk m c 5 t (ix2 k e) = if h : k.val < 16 then aw m c (ix3 0 ⟨k.val, h⟩ e) else (0 : EReal) := by
  refine (show _ = V m c main_v12 (ix2 k e) from ?_).trans (V12 m c k e)
  simp only [iblk]
  blk_ext [idx t]
theorem blr_at (t : Fin cfg0.N) (e : Fin 512) : iblk m c 6 t (ix2 0 e) = ab m c (ix2 0 e) := by
  show V m c main_v13 _ = _
  rw [V13]
  unfold ab
  blk_ext [idx t]
theorem gain_at (t : Fin cfg0.N) (e : Fin 256) : iblk m c 7 t (ix2 0 e) = an m c (ix2 0 e) := by
  show V m c main_v14 _ = _
  rw [V14]
  unfold an
  blk_ext [idx t]

/-- The low-rank projection of a sample. -/
def low (t : Fin 128) (e : Fin 512) : EReal := (∑ k : Fin 16, al m c (ix2 t ⟨k.val, by omega⟩) * aw m c (ix3 0 k e)) + ab m c (ix2 0 e)

/-- The softplus. -/
def soft (x : EReal) : EReal := max x 0 + Ideal.log1p (Ideal.exp (-(FloatOps.absf (F := Idealize.ShloMosaic.Ideal) (φ := .f32) x)))

theorem decay_at (t : Fin cfg0.N) (e : Fin 512) : decay m c t (ix2 0 e) =
    Ideal.exp (Ideal.div (-(soft (-(low m c ⟨t.val, t.isLt⟩ e)))) (Ideal.ofBits FTy.f32 0x41800000#32)) := by
  have s : (∑ k : Fin 128, (id (iblk m c 3 t (ix3 0 0 k)) : EReal) * (id (iblk m c 5 t (ix2 k e)) : EReal)) + (id (iblk m c 6 t (ix2 0 e)) : EReal) = low m c ⟨t.val, t.isLt⟩ e := by
    unfold low
    refine congrArg₂ (· + ·) ?_ (blr_at m c t e)
    refine Eq.trans ?_ (sum_widened (fun k => al m c (ix2 ⟨t.val, t.isLt⟩ k)) (fun k => aw m c (ix3 0 k e)))
    exact Finset.sum_congr rfl fun k _ => congrArg₂ (· * ·) (lr_at m c t k) (wlr_at m c t k e)
  rw [← s, div_16]
  unfold decay soft
  pointwise [k0_pay2]
  simp only [zero_sub, id]

/-- The new state, from the arguments. -/
def st (t : Fin 128) (h : Fin 4) (d : Fin 128) (e : Fin 256) : EReal :=
  Ideal.exp (Ideal.div (-(soft (-(low m c t ⟨h.val * 128 + d.val, by omega⟩)))) (Ideal.ofBits FTy.f32 0x41800000#32)) * aS m c (ix5 0 t h d e) +
    ak m c (ix2 t ⟨h.val * 128 + d.val, by omega⟩) * av m c (ix2 t ⟨h.val * 256 + e.val, by omega⟩)

theorem state_at (t : Fin cfg0.N) (h : Fin 4) (d : Fin 128) (e : Fin 256) : state m c t h d e = st m c ⟨t.val, t.isLt⟩ h d e := by
  unfold state st
  rw [decay_at, keys_at, vals_at, olds_at]

/-- The attention output, from the arguments. -/
def att (t : Fin 128) (h : Fin 4) (e : Fin 256) : EReal :=
  ∑ d : Fin 128, aq m c (ix2 t ⟨h.val * 128 + d.val, by omega⟩) * Ideal.ofBits FTy.f32 0x3DB504F3#32 * st m c t h d e

theorem outp_at (t : Fin cfg0.N) (h : Fin 4) (e : Fin 256) : outp m c t (ix3 0 h e) = att m c ⟨t.val, t.isLt⟩ h e := by
  unfold outp att
  refine Finset.sum_congr rfl fun d _ => ?_
  exact congrArg₂ (· * ·) (congrArg (· * _) (queries_at m c t h d)) (state_at m c t h d e)

/-- The norm and the gate, entry by entry. -/
theorem normed (O : FVec Idealize.ShloMosaic.Ideal S1x4x256 .f32) (g : Vec Idealize.ShloMosaic.Ideal S1x256 .f32) (z : Vec Idealize.ShloMosaic.Ideal S1x4x256 .f32) (h : Fin 4) (e : Fin 256) :
    k0_pay1 O g z (ix3 0 h e) = (O (ix3 0 h e) : EReal) * Ideal.rsqrt ((∑ x : Fin 256, (O (ix3 0 h x) : EReal) * O (ix3 0 h x)) * Ideal.ofBits FTy.f32 0x3B800000#32 + Ideal.ofBits FTy.f32 0x358637BD#32) *
      (g (ix2 0 e) : EReal) * ((z (ix3 0 h e) : EReal) * Ideal.logistic (z (ix3 0 h e))) := by
  pointwise [k0_pay1]
  simp only [div_256]

/-- The output of a sample, normed and gated. -/
def out (t : Fin 128) (h : Fin 4) (e : Fin 256) : EReal :=
  att m c t h e * Ideal.rsqrt ((∑ x : Fin 256, att m c t h x * att m c t h x) * Ideal.ofBits FTy.f32 0x3B800000#32 + Ideal.ofBits FTy.f32 0x358637BD#32) *
    an m c (ix2 0 e) * (ag m c (ix2 t ⟨h.val * 256 + e.val, by omega⟩) * Ideal.logistic (ag m c (ix2 t ⟨h.val * 256 + e.val, by omega⟩)))

theorem out_at (t : Fin cfg0.N) (h : Fin 4) (e : Fin 256) : k0_pay1 (outp m c t) (iblk m c 7 t) (iblk m c 2 t) (ix3 0 h e) = out m c ⟨t.val, t.isLt⟩ h e := by
  refine (normed _ _ _ h e).trans ?_
  unfold out
  refine congrArg₂ (· * ·) (congrArg₂ (· * ·) (congrArg₂ (· * ·) (outp_at m c t h e) ?_) (gain_at m c t e)) (congrArg₂ (· * ·) (gate_at m c t h e) (congrArg Ideal.logistic (gate_at m c t h e)))
  refine congrArg (fun s => Ideal.rsqrt (s * _ + _)) ?_
  exact Finset.sum_congr rfl fun x _ => congrArg₂ (· * ·) (outp_at m c t h x) (outp_at m c t h x)

theorem row_form (y : S1x4x256.Idx) : y = ix3 0 (y 1) (y 2) := by
  funext a
  match a with
  | ⟨0, _⟩ => exact Subsingleton.elim (α := Fin 1) _ _
  | ⟨1, _⟩ => rfl
  | ⟨2, _⟩ => rfl

/-- All samples' outputs. -/
def outA : S128x4x256.Idx → EReal := fun i => out m c (i 0) (i 1) (i 2)

set_option maxHeartbeats 3200000 in
/-- All samples' outputs, as the launch leaves them. -/
theorem outs : (dats m 0 c).arrAt 8 (cfgs 0).N = outA m c := by
  refine (dats m 0 c).arrAt_eq_of_covers 8 _ (by decide +kernel) fun t hf y => ?_
  blk_simp
  rw [after_8]
  refine (congrArg (k0_pay1 (outp m c t) (iblk m c 7 t) (iblk m c 2 t)) (row_form y)).trans ?_
  refine (out_at m c t (y 1) (y 2)).trans ?_
  refine (show _ = outA m c (ix3 ⟨t.val, t.isLt⟩ (y 1) (y 2)) from rfl).trans ?_
  blk_ext [idx t]

/-- The outputs leave the launch as one row per sample. -/
theorem tail : Pipeline.afterTail₀ cfgs (dats m) 0 (V0 m) [hostOps1] c main_v16 =
    fun i => shapeCast S128x1024 ((dats m 0 c).arrAt 8 (cfgs 0).N) shapeCasts_S128x4x256_S128x1024 i := by
  unfold Pipeline.afterTail₀
  have h := Pipeline.withArrays_arr (cfgs 0).spec winFacts0.arr_inj c (V0 m c) (fun w => (dats m 0 c).arrAt w (cfgs 0).N) 8
  rw [← h]
  generalize Pipeline.withArrays (cfgs 0).spec c (V0 m c) (fun w => (dats m 0 c).arrAt w (cfgs 0).N) = σ
  simp only [hostOps1, List.flatten_cons, List.flatten_nil, List.append_nil]
  after_results
  rfl

set_option maxHeartbeats 1600000 in
theorem algebraic : Cert.algebraic_Kernel5Ideal_Reference5Ideal := by
  pair_intro
  · run_from Cert.Kernel5Ideal.Gen.run_main m g
    all_goals first | exact W_main_arg0 m (dats m) c | exact W_main_arg1 m (dats m) c | exact W_main_arg2 m (dats m) c | exact W_main_arg3 m (dats m) c | exact W_main_arg4 m (dats m) c | exact W_main_arg5 m (dats m) c | exact W_main_arg6 m (dats m) c | exact W_main_arg7 m (dats m) c | exact W_main_arg8 m (dats m) c
  · hlo_run
    · rw [tail, outs]
      funext i
      simp only [StableHlo.TRef.toBuf, StableHlo.TRef.ofBuf, cast_eq]
      pointwise [outA, out, att, st, low, soft]
      simp only [div_256, Ideal.logistic, ne_eq, not_true, if_false, aq, ak, av, ag, al, aS, aw, ab, an]
    · symm
      refine (dats m 0 c).arrAt_eq_of_covers 9 _ (by decide +kernel) fun t hf y => ?_
      simp only [StableHlo.TRef.toBuf, StableHlo.TRef.ofBuf, cast_eq]
      blk_simp
      rw [after_9]
      refine (state_at m c t (y 1) (y 2) (y 3)).trans ?_
      pointwise [st, low, soft]
      simp only [ne_eq, not_true, if_false, aq, ak, av, ag, al, aS, aw, ab, an]
      blk_point [idx t]

end Cert.GlaStep
end
-- ==== Proof.GdnStep.lean ====
module
public import proofs.«01_k».proof.Defs
public import proofs.«01_k».proof.Proof.Gen.Kernel6Ideal.Frame
public import proofs.«01_k».proof.Proof.Gen.Reference6Ideal
public import Idealize.ShloMosaic.Lib.Claim
public import Idealize.ShloMosaic.Lib.IdealHost
public import Idealize.ShloMosaic.Lib.Pipeline.ValueKit
@[expose] public section
set_option maxRecDepth 16384
noncomputable section

namespace Cert.GdnStep

open Idealize.ShloMosaic Idealize.SL.Sem
open Cert.Kernel6Ideal Cert.Kernel6Ideal.Gen

/-- A row of the identity matrix picks one entry out of a sum. -/
theorem pick (d : Fin 128) (f : Fin 128 → EReal) :
    ∑ x : Fin 128, (((BitVec.setWidth 32 (IntOp.cmpi CmpIPredicate.eq (BitVec.ofNat 32 d.val) (BitVec.ofNat 32 x.val))).toInt : ℝ) : EReal) * f x = f d := by
  have one : ∀ x : Fin 128, (((BitVec.setWidth 32 (IntOp.cmpi CmpIPredicate.eq (BitVec.ofNat 32 d.val) (BitVec.ofNat 32 x.val))).toInt : ℝ) : EReal) =
      if d = x then 1 else 0 := by
    intro x
    by_cases h : d = x
    · subst h
      rw [if_pos rfl]
      have e : BitVec.setWidth 32 (IntOp.cmpi CmpIPredicate.eq (BitVec.ofNat 32 d.val) (BitVec.ofNat 32 d.val)) = 1#32 := by
        simp [IntOp.cmpi]
      rw [e]
      norm_num
    · rw [if_neg h]
      have ne : BitVec.ofNat 32 d.val ≠ BitVec.ofNat 32 x.val := by
        intro q
        apply h
        have := congrArg BitVec.toNat q
        simp only [BitVec.toNat_ofNat] at this
        exact Fin.ext (by omega)
      have e : BitVec.setWidth 32 (IntOp.cmpi CmpIPredicate.eq (BitVec.ofNat 32 d.val) (BitVec.ofNat 32 x.val)) = 0#32 := by
        simp only [IntOp.cmpi, beq_eq_false_iff_ne.2 ne]; rfl
      rw [e]
      norm_num
  simp only [one, ite_mul, one_mul, zero_mul]
  simp

/-- Dividing by 128 is multiplying by 1/128, of any extended real. -/
theorem div_128 (x : EReal) : Ideal.div x (Ideal.ofBits FTy.f32 0x43000000#32) = x * Ideal.ofBits FTy.f32 0x3C000000#32 := by
  have h : Ideal.ofBits FTy.f32 0x43000000#32 = ((128 : ℝ) : EReal) := by
    simp [Ideal.ofBits, Ideal.ieee, -EReal.coe_mul]; norm_num
  have h' : Ideal.ofBits FTy.f32 0x3C000000#32 = ((1 / 128 : ℝ) : EReal) := by
    simp [Ideal.ofBits, Ideal.ieee, -EReal.coe_mul]; norm_num
  rw [h, h', Ideal.div_coe (by norm_num)]

/-- A sum in which one lane is kept and the others are zero. -/
theorem lane (f : Fin 128 → EReal) (w : BitVec 32) (j : Fin 128) (hw : w = BitVec.ofNat 32 j.val) :
    ∑ x : Fin 128, Scalar.select (IntOp.cmpi CmpIPredicate.eq (BitVec.ofNat 32 x.val) w) (f x) 0 = f j := by
  subst hw
  have one : ∀ x : Fin 128, Scalar.select (IntOp.cmpi CmpIPredicate.eq (BitVec.ofNat 32 x.val) (BitVec.ofNat 32 j.val)) (f x) 0 = if x = j then f x else 0 := by
    intro x
    by_cases h : x = j
    · subst h
      simp [IntOp.cmpi, Scalar.select]
    · rw [if_neg h]
      have ne : BitVec.ofNat 32 x.val ≠ BitVec.ofNat 32 j.val := by
        intro q
        apply h
        have := congrArg BitVec.toNat q
        simp only [BitVec.toNat_ofNat] at this
        exact Fin.ext (by omega)
      simp only [IntOp.cmpi, beq_eq_false_iff_ne.2 ne]
      rfl
  simp only [one]
  simp

/-- The columns of the turned operands: the keys. -/
theorem turned_k (q k : FVec Idealize.ShloMosaic.Ideal S8x128 .f32) (d : Fin 128) (h : Fin 8) :
    k0_pay19 (F := Idealize.ShloMosaic.Ideal) q k (ix2 d ⟨h.val, by omega⟩) = k (ix2 h d) := by
  pointwise [k0_pay19]
  refine (pick d _).trans ?_
  first | rfl | (simp; done) | blk_ext

/-- The columns of the turned operands: the queries. -/
theorem turned_q (q k : FVec Idealize.ShloMosaic.Ideal S8x128 .f32) (d : Fin 128) (h : Fin 8) :
    k0_pay19 (F := Idealize.ShloMosaic.Ideal) q k (ix2 d ⟨8 + h.val, by omega⟩) = q (ix2 h d) := by
  pointwise [k0_pay19]
  refine (pick d _).trans ?_
  first | rfl | (simp; done) | blk_ext

/-- The sigmoid of a lane of the narrow part. -/
theorem sig_at (x : Vec Idealize.ShloMosaic.Ideal S1x1x128 .f32) (h : Fin 8) :
    k0_pay17 (F := Idealize.ShloMosaic.Ideal) k0_pay14 (k0_pay15 x) k0_pay16 (ix2 h 0) = Ideal.logistic (x (ix3 0 0 ⟨h.val, by omega⟩)) := by
  pointwise [k0_pay17, k0_pay14, k0_pay15, k0_pay16, k0_pay13]
  refine congrArg Ideal.logistic ?_
  exact lane (fun l => x (ix3 0 0 l)) _ ⟨h.val, by omega⟩ rfl

/-- The softplus. -/
def soft (x : EReal) : EReal := max x 0 + Ideal.log1p (Ideal.exp (-(FloatOps.absf (F := Idealize.ShloMosaic.Ideal) (φ := .f32) x)))

/-- The decay of a head. -/
theorem dec_at (x : Vec Idealize.ShloMosaic.Ideal S1x1x128 .f32) (a b : Vec Idealize.ShloMosaic.Ideal S8x1 .f32) (h : Fin 8) :
    k0_pay18 (F := Idealize.ShloMosaic.Ideal) (k0_pay13 x) (iota .tc S8x128 32 [0] iota_S8x128_d0_w32) (iota .tc S8x128 32 [1] iota_S8x128_d1_w32) a b (ix2 h 0) =
      Ideal.exp (-(Ideal.exp (a (ix2 h 0))) * soft ((x (ix3 0 0 ⟨8 + h.val, by omega⟩) : EReal) + (b (ix2 h 0) : EReal))) := by
  have l : ∑ l : Fin 128, Scalar.select (IntOp.cmpi CmpIPredicate.eq (BitVec.ofNat 32 l.val) (IntOp.addi (BitVec.ofNat 32 h.val) 8#32)) (x (ix3 0 0 l) : EReal) 0 = x (ix3 0 0 ⟨8 + h.val, by omega⟩) :=
    lane (fun l => x (ix3 0 0 l)) _ ⟨8 + h.val, by omega⟩ (by fin_cases h <;> rfl)
  rw [← l]
  unfold soft
  pointwise [k0_pay18, k0_pay13]
  simp only [zero_sub]

variable (m : (ℓ : Loc nD τ sig) → Buf (Elt Idealize.ShloMosaic.Ideal) ℓ) (c : Dev nD)

/-- Which block each window is at, point by point. -/
theorem idx : ∀ t : Fin cfg0.N, win0_0.index t = ![t.val, 0, 0] ∧ win0_1.index t = ![t.val, 0, 0, 0] ∧ win0_2.index t = ![t.val, 0, 0] ∧ win0_3.index t = ![t.val, 0, 0] ∧ win0_4.index t = ![t.val, 0, 0, 0] ∧ win0_5.index t = ![0, 0, 0] ∧ win0_6.index t = ![0, 0] ∧ win0_7.index t = ![0, 0] ∧ win0_8.index t = ![0, 0] ∧ win0_9.index t = ![0, 0] ∧ win0_10.index t = ![t.val, 0, 0] ∧ win0_11.index t = ![t.val, 0, 0, 0] ∧ win0_12.index t = ![t.val, 0, 0, 0] :=
  (by decide +kernel : ∀ t : Fin grid0.N, _)

/-- The arguments: rows of q, k, v, the convolution's state, the narrow part, gates, states, the convolution's weights and
    offsets, the decays' logarithms, their offsets, the gains. -/
def ax : S128x3072.Idx → EReal := m (c.tc.loc main_arg0)
def ac : S1x128x3x3072.Idx → EReal := m (c.tc.loc main_arg1)
def aba : S128x128.Idx → EReal := m (c.tc.loc main_arg2)
def ag : S128x1024.Idx → EReal := m (c.tc.loc main_arg3)
def aS : S1x128x8x128x128.Idx → EReal := m (c.tc.loc main_arg4)
def aw : S1x4x3072.Idx → EReal := m (c.tc.loc main_arg5)
def ab : S1x3072.Idx → EReal := m (c.tc.loc main_arg6)
def al : S1x8.Idx → EReal := m (c.tc.loc main_arg7)
def ad : S1x8.Idx → EReal := m (c.tc.loc main_arg8)
def an : S1x128.Idx → EReal := m (c.tc.loc main_arg9)

theorem V7 (i : S128x24x128.Idx) : V m c main_v7 i = m (c.tc.loc main_arg0) (ix2 (i 0) ⟨(i 1).val * 128 + (i 2).val, by have : (i 1).val < 24 := (i 1).isLt; have : (i 2).val < 128 := (i 2).isLt; omega⟩) := by
  simp only [V, V0, hostOps0, List.flatten_cons, List.flatten_nil, List.append_nil]
  entry_read
  pointwise
  try blk_ext

theorem V8 (i : S128x3x24x128.Idx) : V m c main_v8 i = m (c.tc.loc main_arg1) (ix4 0 (i 0) (i 1) ⟨(i 2).val * 128 + (i 3).val, by have : (i 2).val < 24 := (i 2).isLt; have : (i 3).val < 128 := (i 3).isLt; omega⟩) := by
  simp only [V, V0, hostOps0, List.flatten_cons, List.flatten_nil, List.append_nil]
  entry_read
  pointwise
  try blk_ext

theorem V9 (i : S128x1x128.Idx) : V m c main_v9 i = m (c.tc.loc main_arg2) (ix2 (i 0) (i 2)) := by
  simp only [V, V0, hostOps0, List.flatten_cons, List.flatten_nil, List.append_nil]
  entry_read
  pointwise
  try blk_ext

theorem V10 (i : S128x8x128.Idx) : V m c main_v10 i = m (c.tc.loc main_arg3) (ix2 (i 0) ⟨(i 1).val * 128 + (i 2).val, by have : (i 1).val < 8 := (i 1).isLt; have : (i 2).val < 128 := (i 2).isLt; omega⟩) := by
  simp only [V, V0, hostOps0, List.flatten_cons, List.flatten_nil, List.append_nil]
  entry_read
  pointwise
  try blk_ext

theorem V1 (i : S128x8x128x128.Idx) : V m c main_v1 i = m (c.tc.loc main_arg4) (ix5 0 (i 0) (i 1) (i 2) (i 3)) := by
  simp only [V, V0, hostOps0, List.flatten_cons, List.flatten_nil, List.append_nil]
  entry_read
  pointwise
  try blk_ext

theorem V11 (i : S4x24x128.Idx) : V m c main_v11 i = m (c.tc.loc main_arg5) (ix3 0 (i 0) ⟨(i 1).val * 128 + (i 2).val, by have : (i 1).val < 24 := (i 1).isLt; have : (i 2).val < 128 := (i 2).isLt; omega⟩) := by
  simp only [V, V0, hostOps0, List.flatten_cons, List.flatten_nil, List.append_nil]
  entry_read
  pointwise
  try blk_ext

theorem V12 (i : S24x128.Idx) : V m c main_v12 i = m (c.tc.loc main_arg6) (ix2 0 ⟨(i 0).val * 128 + (i 1).val, by have : (i 0).val < 24 := (i 0).isLt; have : (i 1).val < 128 := (i 1).isLt; omega⟩) := by
  simp only [V, V0, hostOps0, List.flatten_cons, List.flatten_nil, List.append_nil]
  entry_read
  pointwise
  try blk_ext

theorem V13 (i : S8x1.Idx) : V m c main_v13 i = m (c.tc.loc main_arg7) (ix2 0 (i 0)) := by
  simp only [V, V0, hostOps0, List.flatten_cons, List.flatten_nil, List.append_nil]
  entry_read
  pointwise
  try blk_ext

theorem V14 (i : S8x1.Idx) : V m c main_v14 i = m (c.tc.loc main_arg8) (ix2 0 (i 0)) := by
  simp only [V, V0, hostOps0, List.flatten_cons, List.flatten_nil, List.append_nil]
  entry_read
  pointwise
  try blk_ext

theorem V15 (i : S1x128.Idx) : V m c main_v15 i = m (c.tc.loc main_arg9) (ix2 0 (i 1)) := by
  simp only [V, V0, hostOps0, List.flatten_cons, List.flatten_nil, List.append_nil]
  entry_read
  pointwise
  try blk_ext

theorem x_at (t : Fin cfg0.N) (r : Fin 24) (d : Fin 128) : iblk m c 0 t (ix3 0 r d) = ax m c (ix2 ⟨t.val, t.isLt⟩ ⟨r.val * 128 + d.val, by omega⟩) := by
  show V m c main_v7 _ = _
  rw [V7]
  unfold ax
  blk_ext [idx t]

theorem c_at (t : Fin cfg0.N) (j : Fin 3) (r : Fin 24) (d : Fin 128) : iblk m c 1 t (ix4 0 j r d) = ac m c (ix4 0 ⟨t.val, t.isLt⟩ j ⟨r.val * 128 + d.val, by omega⟩) := by
  show V m c main_v8 _ = _
  rw [V8]
  unfold ac
  blk_ext [idx t]

theorem ba_at (t : Fin cfg0.N) (l : Fin 128) : iblk m c 2 t (ix3 0 0 l) = aba m c (ix2 ⟨t.val, t.isLt⟩ l) := by
  show V m c main_v9 _ = _
  rw [V9]
  unfold aba
  blk_ext [idx t]

theorem gate_at (t : Fin cfg0.N) (h : Fin 8) (e : Fin 128) : iblk m c 3 t (ix3 0 h e) = ag m c (ix2 ⟨t.val, t.isLt⟩ ⟨h.val * 128 + e.val, by omega⟩) := by
  show V m c main_v10 _ = _
  rw [V10]
  unfold ag
  blk_ext [idx t]

theorem S_at (t : Fin cfg0.N) (h : Fin 8) (d e : Fin 128) : iblk m c 4 t (ix4 0 h d e) = aS m c (ix5 0 ⟨t.val, t.isLt⟩ h d e) := by
  show V m c main_v1 _ = _
  rw [V1]
  unfold aS
  blk_ext [idx t]

theorem w_at (t : Fin cfg0.N) (j : Fin 4) (r : Fin 24) (d : Fin 128) : iblk m c 5 t (ix3 j r d) = aw m c (ix3 0 j ⟨r.val * 128 + d.val, by omega⟩) := by
  show V m c main_v11 _ = _
  rw [V11]
  unfold aw
  blk_ext [idx t]

theorem b_at (t : Fin cfg0.N) (r : Fin 24) (d : Fin 128) : iblk m c 6 t (ix2 r d) = ab m c (ix2 0 ⟨r.val * 128 + d.val, by omega⟩) := by
  show V m c main_v12 _ = _
  rw [V12]
  unfold ab
  blk_ext [idx t]

theorem al_at (t : Fin cfg0.N) (h : Fin 8) : iblk m c 7 t (ix2 h 0) = al m c (ix2 0 h) := by
  show V m c main_v13 _ = _
  rw [V13]
  unfold al
  blk_ext [idx t]

theorem ad_at (t : Fin cfg0.N) (h : Fin 8) : iblk m c 8 t (ix2 h 0) = ad m c (ix2 0 h) := by
  show V m c main_v14 _ = _
  rw [V14]
  unfold ad
  blk_ext [idx t]

theorem gain_at (t : Fin cfg0.N) (e : Fin 128) : iblk m c 9 t (ix2 0 e) = an m c (ix2 0 e) := by
  show V m c main_v15 _ = _
  rw [V15]
  unfold an
  blk_ext [idx t]

/-- What a grid point computes first: the convolution's rows, the values, the strengths, the decays, the turned keys and queries. -/
def pre (t : Fin cfg0.N) : FVec Idealize.ShloMosaic.Ideal S24x128 .f32 :=
  (k0_pay5 (iblk m c 0 t) (View.ld (S := S1x3x24x128) (Val := Elt Idealize.ShloMosaic.Ideal) (iblk m c 1 t) (Rect.unit ![0, 0, 0, 0] ![1, 1, 24, 128] inb_S1x3x24x128_S1x1x24x128_0_0_0_0))
    (View.ld (S := S1x3x24x128) (Val := Elt Idealize.ShloMosaic.Ideal) (iblk m c 1 t) (Rect.unit ![0, 1, 0, 0] ![1, 1, 24, 128] inb_S1x3x24x128_S1x1x24x128_0_1_0_0))
    (View.ld (S := S1x3x24x128) (Val := Elt Idealize.ShloMosaic.Ideal) (iblk m c 1 t) (Rect.unit ![0, 2, 0, 0] ![1, 1, 24, 128] inb_S1x3x24x128_S1x1x24x128_0_2_0_0)) (iblk m c 6 t)
    (View.ld (S := S4x24x128) (Val := Elt Idealize.ShloMosaic.Ideal) (iblk m c 5 t) (Rect.unit ![0, 0, 0] ![1, 24, 128] inb_S4x24x128_S1x24x128_0_0_0))
    (View.ld (S := S4x24x128) (Val := Elt Idealize.ShloMosaic.Ideal) (iblk m c 5 t) (Rect.unit ![1, 0, 0] ![1, 24, 128] inb_S4x24x128_S1x24x128_1_0_0))
    (View.ld (S := S4x24x128) (Val := Elt Idealize.ShloMosaic.Ideal) (iblk m c 5 t) (Rect.unit ![2, 0, 0] ![1, 24, 128] inb_S4x24x128_S1x24x128_2_0_0))
    (View.ld (S := S4x24x128) (Val := Elt Idealize.ShloMosaic.Ideal) (iblk m c 5 t) (Rect.unit ![3, 0, 0] ![1, 24, 128] inb_S4x24x128_S1x24x128_3_0_0)))
def vv (t : Fin cfg0.N) : FVec Idealize.ShloMosaic.Ideal S8x128 .f32 := k0_pay10 (pre m c t)
def bb (t : Fin cfg0.N) : FVec Idealize.ShloMosaic.Ideal S8x1 .f32 := (k0_pay17 k0_pay14 (k0_pay15 (iblk m c 2 t)) k0_pay16)
def gg (t : Fin cfg0.N) : FVec Idealize.ShloMosaic.Ideal S8x1 .f32 := (k0_pay18 (k0_pay13 (iblk m c 2 t)) (iota .tc S8x128 32 [0] iota_S8x128_d0_w32) (iota .tc S8x128 32 [1] iota_S8x128_d1_w32) (iblk m c 7 t) (iblk m c 8 t))
def cc (t : Fin cfg0.N) : FVec Idealize.ShloMosaic.Ideal S128x16 .f32 := k0_pay19 (k0_pay11 (pre m c t)) (k0_pay12 (pre m c t))
def olds (t : Fin cfg0.N) : FVec Idealize.ShloMosaic.Ideal S1x8x128x128 .f32 := iblk m c 4 t

/-- The delta rule on one head's state. -/
def upd (C : FVec Idealize.ShloMosaic.Ideal S128x16 .f32) (G B : FVec Idealize.ShloMosaic.Ideal S8x1 .f32) (U : FVec Idealize.ShloMosaic.Ideal S8x128 .f32) (S : FVec Idealize.ShloMosaic.Ideal S1x8x128x128 .f32) (h : Fin 8) (d e : Fin 128) : EReal :=
  (G (ix2 h 0) : EReal) * (S (ix4 0 h d e) : EReal) + (C (ix2 d ⟨h.val, by omega⟩) : EReal) *
    ((B (ix2 h 0) : EReal) * ((U (ix2 h e) : EReal) - (G (ix2 h 0) : EReal) * ∑ x : Fin 128, (C (ix2 x ⟨h.val, by omega⟩) : EReal) * (S (ix4 0 h x e) : EReal)))

/-- All heads' states at once. -/
def upds (C : FVec Idealize.ShloMosaic.Ideal S128x16 .f32) (G B : FVec Idealize.ShloMosaic.Ideal S8x1 .f32) (U : FVec Idealize.ShloMosaic.Ideal S8x128 .f32) (S : FVec Idealize.ShloMosaic.Ideal S1x8x128x128 .f32) : FVec Idealize.ShloMosaic.Ideal S1x8x128x128 .f32 :=
  fun y => upd C G B U S (y 1) (y 2) (y 3)

set_option maxHeartbeats 3200000 in
/-- The new state a grid point leaves. -/
theorem after_12 (t : Fin cfg0.N) (y : S1x8x128x128.Idx) : (dats m 0 c).after 12 t y = upds (cc m c t) (gg m c t) (bb m c t) (vv m c t) (olds m c t) y := by
  rw [after0_12]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  have e : (k0_pay5 (iblk m c 0 t) (View.ld (S := S1x3x24x128) (Val := Elt Idealize.ShloMosaic.Ideal) (iblk m c 1 t) (Rect.unit ![0, 0, 0, 0] ![1, 1, 24, 128] inb_S1x3x24x128_S1x1x24x128_0_0_0_0))
    (View.ld (S := S1x3x24x128) (Val := Elt Idealize.ShloMosaic.Ideal) (iblk m c 1 t) (Rect.unit ![0, 1, 0, 0] ![1, 1, 24, 128] inb_S1x3x24x128_S1x1x24x128_0_1_0_0))
    (View.ld (S := S1x3x24x128) (Val := Elt Idealize.ShloMosaic.Ideal) (iblk m c 1 t) (Rect.unit ![0, 2, 0, 0] ![1, 1, 24, 128] inb_S1x3x24x128_S1x1x24x128_0_2_0_0)) (iblk m c 6 t)
    (View.ld (S := S4x24x128) (Val := Elt Idealize.ShloMosaic.Ideal) (iblk m c 5 t) (Rect.unit ![0, 0, 0] ![1, 24, 128] inb_S4x24x128_S1x24x128_0_0_0))
    (View.ld (S := S4x24x128) (Val := Elt Idealize.ShloMosaic.Ideal) (iblk m c 5 t) (Rect.unit ![1, 0, 0] ![1, 24, 128] inb_S4x24x128_S1x24x128_1_0_0))
    (View.ld (S := S4x24x128) (Val := Elt Idealize.ShloMosaic.Ideal) (iblk m c 5 t) (Rect.unit ![2, 0, 0] ![1, 24, 128] inb_S4x24x128_S1x24x128_2_0_0))
    (View.ld (S := S4x24x128) (Val := Elt Idealize.ShloMosaic.Ideal) (iblk m c 5 t) (Rect.unit ![3, 0, 0] ![1, 24, 128] inb_S4x24x128_S1x24x128_3_0_0))) = pre m c t := rfl
  rw [e]
  have e1 : k0_pay10 (pre m c t) = vv m c t := rfl
  have e2 : (k0_pay17 k0_pay14 (k0_pay15 (iblk m c 2 t)) k0_pay16) = bb m c t := rfl
  have e3 : (k0_pay18 (k0_pay13 (iblk m c 2 t)) (iota .tc S8x128 32 [0] iota_S8x128_d0_w32) (iota .tc S8x128 32 [1] iota_S8x128_d1_w32) (iblk m c 7 t) (iblk m c 8 t)) = gg m c t := rfl
  have e5 : iblk m c 4 t = olds m c t := rfl
  have e4 : k0_pay19 (k0_pay11 (pre m c t)) (k0_pay12 (pre m c t)) = cc m c t := rfl
  simp only [k0_pay20, k0_pay21, k0_pay23, k0_pay22]
  rw [e1, e2, e3, e4, e5]
  clear e e1 e2 e3 e4 e5
  generalize cc m c t = C
  generalize vv m c t = U
  generalize bb m c t = B
  generalize gg m c t = G
  generalize olds m c t = S
  unfold upds upd
  canon_tiles x h
  all_goals
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
    blk_point []

/-- The convolution's new state a grid point leaves. -/
theorem after_11 (t : Fin cfg0.N) (y : S1x3x24x128.Idx) : (dats m 0 c).after 11 t y = if h : (y 1).val < 2 then
    ac m c (ix4 0 ⟨t.val, t.isLt⟩ ⟨(y 1).val + 1, by omega⟩ ⟨(y 2).val * 128 + (y 3).val, by have : (y 2).val < 24 := (y 2).isLt; have : (y 3).val < 128 := (y 3).isLt; omega⟩) else
    ax m c (ix2 ⟨t.val, t.isLt⟩ ⟨(y 2).val * 128 + (y 3).val, by have : (y 2).val < 24 := (y 2).isLt; have : (y 3).val < 128 := (y 3).isLt; omega⟩) := by
  rw [after0_11]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  canon_tiles x h
  · rw [dif_neg (by omega)]
    pointwise [k0_pay8, k0_pay2]
    refine (x_at m c t _ _).trans ?_
    blk_ext []
  · rw [dif_pos (by omega)]
    pointwise [k0_pay7, k0_pay4]
    refine (c_at m c t _ _ _).trans ?_
    blk_ext []
  · rw [dif_pos (by omega)]
    pointwise [k0_pay6, k0_pay3]
    refine (c_at m c t _ _ _).trans ?_
    blk_ext []

/-- The output's gate and norm, from equal rows. -/
theorem norm_of (O f : FVec Idealize.ShloMosaic.Ideal S1x8x128 .f32) (g : Vec Idealize.ShloMosaic.Ideal S1x128 .f32) (z : Vec Idealize.ShloMosaic.Ideal S1x8x128 .f32) (h : ∀ i, O i = f i) :
    k0_pay1 (k0_pay65 O g z) = k0_pay1 (k0_pay65 f g z) := by rw [show O = f from funext h]

/-- The output before the norm. -/
def outC (C : FVec Idealize.ShloMosaic.Ideal S128x16 .f32) (G B : FVec Idealize.ShloMosaic.Ideal S8x1 .f32) (U : FVec Idealize.ShloMosaic.Ideal S8x128 .f32) (S : FVec Idealize.ShloMosaic.Ideal S1x8x128x128 .f32) : FVec Idealize.ShloMosaic.Ideal S1x8x128 .f32 := fun i =>
  (∑ d : Fin 128, (C (ix2 d ⟨8 + (i 1).val, by have : (i 1).val < 8 := (i 1).isLt; omega⟩) : EReal) * upd C G B U S (i 1) d (i 2) : EReal)
def outp (t : Fin cfg0.N) : FVec Idealize.ShloMosaic.Ideal S1x8x128 .f32 := outC (cc m c t) (gg m c t) (bb m c t) (vv m c t) (olds m c t)

set_option maxHeartbeats 3200000 in
/-- The output a grid point leaves. -/
theorem after_10 (t : Fin cfg0.N) : (dats m 0 c).after 10 t = k0_pay1 (k0_pay65 (outp m c t) (iblk m c 9 t) (iblk m c 3 t)) := by
  rw [after0_10]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  refine norm_of _ _ _ _ fun i => ?_
  rw [View.readCov_eq_canon']
  unfold outp
  have e : (k0_pay5 (iblk m c 0 t) (View.ld (S := S1x3x24x128) (Val := Elt Idealize.ShloMosaic.Ideal) (iblk m c 1 t) (Rect.unit ![0, 0, 0, 0] ![1, 1, 24, 128] inb_S1x3x24x128_S1x1x24x128_0_0_0_0))
    (View.ld (S := S1x3x24x128) (Val := Elt Idealize.ShloMosaic.Ideal) (iblk m c 1 t) (Rect.unit ![0, 1, 0, 0] ![1, 1, 24, 128] inb_S1x3x24x128_S1x1x24x128_0_1_0_0))
    (View.ld (S := S1x3x24x128) (Val := Elt Idealize.ShloMosaic.Ideal) (iblk m c 1 t) (Rect.unit ![0, 2, 0, 0] ![1, 1, 24, 128] inb_S1x3x24x128_S1x1x24x128_0_2_0_0)) (iblk m c 6 t)
    (View.ld (S := S4x24x128) (Val := Elt Idealize.ShloMosaic.Ideal) (iblk m c 5 t) (Rect.unit ![0, 0, 0] ![1, 24, 128] inb_S4x24x128_S1x24x128_0_0_0))
    (View.ld (S := S4x24x128) (Val := Elt Idealize.ShloMosaic.Ideal) (iblk m c 5 t) (Rect.unit ![1, 0, 0] ![1, 24, 128] inb_S4x24x128_S1x24x128_1_0_0))
    (View.ld (S := S4x24x128) (Val := Elt Idealize.ShloMosaic.Ideal) (iblk m c 5 t) (Rect.unit ![2, 0, 0] ![1, 24, 128] inb_S4x24x128_S1x24x128_2_0_0))
    (View.ld (S := S4x24x128) (Val := Elt Idealize.ShloMosaic.Ideal) (iblk m c 5 t) (Rect.unit ![3, 0, 0] ![1, 24, 128] inb_S4x24x128_S1x24x128_3_0_0))) = pre m c t := rfl
  rw [e]
  have e1 : k0_pay10 (pre m c t) = vv m c t := rfl
  have e2 : (k0_pay17 k0_pay14 (k0_pay15 (iblk m c 2 t)) k0_pay16) = bb m c t := rfl
  have e3 : (k0_pay18 (k0_pay13 (iblk m c 2 t)) (iota .tc S8x128 32 [0] iota_S8x128_d0_w32) (iota .tc S8x128 32 [1] iota_S8x128_d1_w32) (iblk m c 7 t) (iblk m c 8 t)) = gg m c t := rfl
  have e5 : iblk m c 4 t = olds m c t := rfl
  have e4 : k0_pay19 (k0_pay11 (pre m c t)) (k0_pay12 (pre m c t)) = cc m c t := rfl
  simp only [k0_pay20, k0_pay21, k0_pay23, k0_pay22]
  rw [e1, e2, e3, e4, e5]
  clear e e1 e2 e3 e4 e5
  generalize cc m c t = C
  generalize vv m c t = U
  generalize bb m c t = B
  generalize gg m c t = G
  generalize olds m c t = S
  have at_i : (Rect.unit (s := S1x8x128) ![0, 0, 0] ![1, 8, 128] inb_S1x8x128_S1x8x128_0_0_0).toLoadRect.idx i = i := by
    funext a
    apply Fin.ext
    fin_cases a <;> simp [Rect.unit, Rect.toLoadRect, LoadRect.idx]
  rw [at_i]
  unfold outC upd
  canon_tiles x h
  all_goals
    pointwise [k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
    blk_point []

/-- The convolution's rows, entry by entry, from their pieces. -/
theorem conv_of (x : Vec Idealize.ShloMosaic.Ideal S1x24x128 .f32) (c0 c1 c2 : Vec Idealize.ShloMosaic.Ideal S1x1x24x128 .f32) (b : Vec Idealize.ShloMosaic.Ideal S24x128 .f32) (w0 w1 w2 w3 : Vec Idealize.ShloMosaic.Ideal S1x24x128 .f32) (r : Fin 24) (d : Fin 128) :
    k0_pay5 x c0 c1 c2 b w0 w1 w2 w3 (ix2 r d) = (b (ix2 r d) : EReal) + (c0 (ix4 0 0 r d) : EReal) * (w0 (ix3 0 r d) : EReal) + (c1 (ix4 0 0 r d) : EReal) * (w1 (ix3 0 r d) : EReal) +
      (c2 (ix4 0 0 r d) : EReal) * (w2 (ix3 0 r d) : EReal) + (x (ix3 0 r d) : EReal) * (w3 (ix3 0 r d) : EReal) := by
  pointwise [k0_pay5, k0_pay3, k0_pay4, k0_pay2]
  rw [mul_comm (w0 _ : EReal), mul_comm (w1 _ : EReal), mul_comm (w2 _ : EReal), mul_comm (w3 _ : EReal)]

/-- The convolution of a sample at a column, from the arguments. -/
def pr (t : Fin 128) (n : Fin 3072) : EReal :=
  ab m c (ix2 0 n) + ac m c (ix4 0 t 0 n) * aw m c (ix3 0 0 n) + ac m c (ix4 0 t 1 n) * aw m c (ix3 0 1 n) + ac m c (ix4 0 t 2 n) * aw m c (ix3 0 2 n) + ax m c (ix2 t n) * aw m c (ix3 0 3 n)

theorem pre_at (t : Fin cfg0.N) (r : Fin 24) (d : Fin 128) : pre m c t (ix2 r d) = pr m c ⟨t.val, t.isLt⟩ ⟨r.val * 128 + d.val, by omega⟩ := by
  refine (conv_of _ _ _ _ _ _ _ _ _ r d).trans ?_
  unfold pr
  have cj : ∀ (j : Fin 3) (inb : _), View.ld (S := S1x3x24x128) (Val := Elt Idealize.ShloMosaic.Ideal) (iblk m c 1 t) (Rect.unit ![0, j.val, 0, 0] ![1, 1, 24, 128] inb) (ix4 0 0 r d) = ac m c (ix4 0 ⟨t.val, t.isLt⟩ j ⟨r.val * 128 + d.val, by omega⟩) := by
    intro j inb
    refine (congrArg (iblk m c 1 t) ?_).trans (c_at m c t j r d)
    funext a
    apply Fin.ext
    fin_cases a <;> simp [Rect.unit, Rect.toLoadRect, LoadRect.idx]
  have wj : ∀ (j : Fin 4) (inb : _), View.ld (S := S4x24x128) (Val := Elt Idealize.ShloMosaic.Ideal) (iblk m c 5 t) (Rect.unit ![j.val, 0, 0] ![1, 24, 128] inb) (ix3 0 r d) = aw m c (ix3 0 j ⟨r.val * 128 + d.val, by omega⟩) := by
    intro j inb
    refine (congrArg (iblk m c 5 t) ?_).trans (w_at m c t j r d)
    funext a
    apply Fin.ext
    fin_cases a <;> simp [Rect.unit, Rect.toLoadRect, LoadRect.idx]
  exact congrArg₂ (· + ·) (congrArg₂ (· + ·) (congrArg₂ (· + ·) (congrArg₂ (· + ·) (b_at m c t r d) (congrArg₂ (· * ·) (cj 0 _) (wj 0 _)))
    (congrArg₂ (· * ·) (cj 1 _) (wj 1 _))) (congrArg₂ (· * ·) (cj 2 _) (wj 2 _))) (congrArg₂ (· * ·) (x_at m c t r d) (wj 3 _))

/-- The convolution's output, through the silu. -/
def sl (t : Fin 128) (n : Fin 3072) : EReal := pr m c t n * Ideal.logistic (pr m c t n)

/-- The queries: the first 1024 columns, each head's row of norm one, scaled. -/
def qn (t : Fin 128) (h : Fin 8) (d : Fin 128) : EReal :=
  sl m c t ⟨h.val * 128 + d.val, by omega⟩ * Ideal.rsqrt ((∑ x : Fin 128, sl m c t ⟨h.val * 128 + x.val, by omega⟩ * sl m c t ⟨h.val * 128 + x.val, by omega⟩) + Ideal.ofBits FTy.f32 0x358637BD#32) * Ideal.ofBits FTy.f32 0x3DB504F3#32

/-- The keys: the next 1024 columns, each head's row of norm one. -/
def kn (t : Fin 128) (h : Fin 8) (d : Fin 128) : EReal :=
  sl m c t ⟨1024 + (h.val * 128 + d.val), by omega⟩ * Ideal.rsqrt ((∑ x : Fin 128, sl m c t ⟨1024 + (h.val * 128 + x.val), by omega⟩ * sl m c t ⟨1024 + (h.val * 128 + x.val), by omega⟩) + Ideal.ofBits FTy.f32 0x358637BD#32)

/-- The values: the last 1024 columns. -/
def vn (t : Fin 128) (h : Fin 8) (e : Fin 128) : EReal := sl m c t ⟨2048 + (h.val * 128 + e.val), by omega⟩

/-- The rows of queries, keys and values, from the convolution's rows. -/
theorem silu_q (p : FVec Idealize.ShloMosaic.Ideal S24x128 .f32) (h : Fin 8) (d : Fin 128) : k0_pay11 p (ix2 h d) =
    (p (ix2 ⟨h.val, by omega⟩ d) : EReal) * Ideal.logistic (p (ix2 ⟨h.val, by omega⟩ d)) * Ideal.rsqrt ((∑ x : Fin 128, ((p (ix2 ⟨h.val, by omega⟩ x) : EReal) * Ideal.logistic (p (ix2 ⟨h.val, by omega⟩ x))) * ((p (ix2 ⟨h.val, by omega⟩ x) : EReal) * Ideal.logistic (p (ix2 ⟨h.val, by omega⟩ x)))) + Ideal.ofBits FTy.f32 0x358637BD#32) * Ideal.ofBits FTy.f32 0x3DB504F3#32 := by
  pointwise [k0_pay11, k0_pay9]
theorem silu_k (p : FVec Idealize.ShloMosaic.Ideal S24x128 .f32) (h : Fin 8) (d : Fin 128) : k0_pay12 p (ix2 h d) =
    (p (ix2 ⟨8 + h.val, by omega⟩ d) : EReal) * Ideal.logistic (p (ix2 ⟨8 + h.val, by omega⟩ d)) * Ideal.rsqrt ((∑ x : Fin 128, ((p (ix2 ⟨8 + h.val, by omega⟩ x) : EReal) * Ideal.logistic (p (ix2 ⟨8 + h.val, by omega⟩ x))) * ((p (ix2 ⟨8 + h.val, by omega⟩ x) : EReal) * Ideal.logistic (p (ix2 ⟨8 + h.val, by omega⟩ x)))) + Ideal.ofBits FTy.f32 0x358637BD#32) := by
  pointwise [k0_pay12, k0_pay9]
theorem silu_v (p : FVec Idealize.ShloMosaic.Ideal S24x128 .f32) (h : Fin 8) (d : Fin 128) : k0_pay10 p (ix2 h d) =
    (p (ix2 ⟨16 + h.val, by omega⟩ d) : EReal) * Ideal.logistic (p (ix2 ⟨16 + h.val, by omega⟩ d)) := by
  pointwise [k0_pay10, k0_pay9]

theorem row_q (t : Fin cfg0.N) (h : Fin 8) (d : Fin 128) : pre m c t (ix2 ⟨h.val, by omega⟩ d) = pr m c ⟨t.val, t.isLt⟩ ⟨h.val * 128 + d.val, by omega⟩ := pre_at m c t _ d
theorem row_k (t : Fin cfg0.N) (h : Fin 8) (d : Fin 128) : pre m c t (ix2 ⟨8 + h.val, by omega⟩ d) = pr m c ⟨t.val, t.isLt⟩ ⟨1024 + (h.val * 128 + d.val), by omega⟩ :=
  (pre_at m c t _ d).trans (congrArg (pr m c _) (Fin.ext (by dsimp only; omega)))
theorem row_v (t : Fin cfg0.N) (h : Fin 8) (d : Fin 128) : pre m c t (ix2 ⟨16 + h.val, by omega⟩ d) = pr m c ⟨t.val, t.isLt⟩ ⟨2048 + (h.val * 128 + d.val), by omega⟩ :=
  (pre_at m c t _ d).trans (congrArg (pr m c _) (Fin.ext (by dsimp only; omega)))

theorem q_at (t : Fin cfg0.N) (h : Fin 8) (d : Fin 128) : cc m c t (ix2 d ⟨8 + h.val, by omega⟩) = qn m c ⟨t.val, t.isLt⟩ h d := by
  refine (turned_q _ _ d h).trans ((silu_q _ h d).trans ?_)
  simp only [row_q]
  rfl
theorem k_at (t : Fin cfg0.N) (h : Fin 8) (d : Fin 128) : cc m c t (ix2 d ⟨h.val, by omega⟩) = kn m c ⟨t.val, t.isLt⟩ h d := by
  refine (turned_k _ _ d h).trans ((silu_k _ h d).trans ?_)
  simp only [row_k]
  rfl
theorem v_at (t : Fin cfg0.N) (h : Fin 8) (e : Fin 128) : vv m c t (ix2 h e) = vn m c ⟨t.val, t.isLt⟩ h e := by
  refine (silu_v _ h e).trans ?_
  simp only [row_v]
  rfl

/-- The strengths and the decays. -/
def be (t : Fin 128) (h : Fin 8) : EReal := Ideal.logistic (aba m c (ix2 t ⟨h.val, by omega⟩))
def dc (t : Fin 128) (h : Fin 8) : EReal := Ideal.exp (-(Ideal.exp (al m c (ix2 0 h))) * soft (aba m c (ix2 t ⟨8 + h.val, by omega⟩) + ad m c (ix2 0 h)))

theorem be_at (t : Fin cfg0.N) (h : Fin 8) : bb m c t (ix2 h 0) = be m c ⟨t.val, t.isLt⟩ h :=
  (sig_at _ h).trans (congrArg Ideal.logistic (ba_at m c t _))
theorem dc_at (t : Fin cfg0.N) (h : Fin 8) : gg m c t (ix2 h 0) = dc m c ⟨t.val, t.isLt⟩ h := by
  refine (dec_at _ _ _ h).trans ?_
  unfold dc
  exact congrArg Ideal.exp (congrArg₂ (fun a b => -(Ideal.exp a) * soft b) (al_at m c t h) (congrArg₂ (· + ·) (ba_at m c t _) (ad_at m c t h)))

/-- The delta rule's row, and the new state. -/
def un (t : Fin 128) (h : Fin 8) (e : Fin 128) : EReal :=
  be m c t h * (vn m c t h e - dc m c t h * ∑ x : Fin 128, kn m c t h x * aS m c (ix5 0 t h x e))
def st (t : Fin 128) (h : Fin 8) (d e : Fin 128) : EReal := dc m c t h * aS m c (ix5 0 t h d e) + kn m c t h d * un m c t h e

theorem state_at (t : Fin cfg0.N) (h : Fin 8) (d e : Fin 128) : upd (cc m c t) (gg m c t) (bb m c t) (vv m c t) (olds m c t) h d e = st m c ⟨t.val, t.isLt⟩ h d e := by
  have o : ∀ x y : Fin 128, olds m c t (ix4 0 h x y) = aS m c (ix5 0 ⟨t.val, t.isLt⟩ h x y) := fun x y => S_at m c t h x y
  unfold upd st un
  simp only [k_at, v_at, be_at, dc_at, o]

/-- The output before the norm, from the arguments. -/
def att (t : Fin 128) (h : Fin 8) (e : Fin 128) : EReal := ∑ d : Fin 128, qn m c t h d * st m c t h d e

theorem outp_at (t : Fin cfg0.N) (h : Fin 8) (e : Fin 128) : outp m c t (ix3 0 h e) = att m c ⟨t.val, t.isLt⟩ h e := by
  unfold outp outC att
  exact Finset.sum_congr rfl fun d _ => congrArg₂ (· * ·) (q_at m c t h d) (state_at m c t h d e)

/-- The norm and the gate, entry by entry. -/
theorem normed (O : FVec Idealize.ShloMosaic.Ideal S1x8x128 .f32) (g : Vec Idealize.ShloMosaic.Ideal S1x128 .f32) (z : Vec Idealize.ShloMosaic.Ideal S1x8x128 .f32) (h : Fin 8) (e : Fin 128) :
    k0_pay1 (k0_pay65 O g z) (ix3 0 h e) = (O (ix3 0 h e) : EReal) * Ideal.rsqrt ((∑ x : Fin 128, (O (ix3 0 h x) : EReal) * O (ix3 0 h x)) * Ideal.ofBits FTy.f32 0x3C000000#32 + Ideal.ofBits FTy.f32 0x358637BD#32) *
      (g (ix2 0 e) : EReal) * ((z (ix3 0 h e) : EReal) * Ideal.logistic (z (ix3 0 h e))) := by
  pointwise [k0_pay1, k0_pay65]
  simp only [div_128]

/-- The output of a sample, normed and gated. -/
def out (t : Fin 128) (h : Fin 8) (e : Fin 128) : EReal :=
  att m c t h e * Ideal.rsqrt ((∑ x : Fin 128, att m c t h x * att m c t h x) * Ideal.ofBits FTy.f32 0x3C000000#32 + Ideal.ofBits FTy.f32 0x358637BD#32) *
    an m c (ix2 0 e) * (ag m c (ix2 t ⟨h.val * 128 + e.val, by omega⟩) * Ideal.logistic (ag m c (ix2 t ⟨h.val * 128 + e.val, by omega⟩)))

theorem out_at (t : Fin cfg0.N) (h : Fin 8) (e : Fin 128) : k0_pay1 (k0_pay65 (outp m c t) (iblk m c 9 t) (iblk m c 3 t)) (ix3 0 h e) = out m c ⟨t.val, t.isLt⟩ h e := by
  refine (normed _ _ _ h e).trans ?_
  unfold out
  refine congrArg₂ (· * ·) (congrArg₂ (· * ·) (congrArg₂ (· * ·) (outp_at m c t h e) ?_) (gain_at m c t e)) (congrArg₂ (· * ·) (gate_at m c t h e) (congrArg Ideal.logistic (gate_at m c t h e)))
  refine congrArg (fun s => Ideal.rsqrt (s * _ + _)) ?_
  exact Finset.sum_congr rfl fun x _ => congrArg₂ (· * ·) (outp_at m c t h x) (outp_at m c t h x)

theorem row_form (y : S1x8x128.Idx) : y = ix3 0 (y 1) (y 2) := by
  funext a
  match a with
  | ⟨0, _⟩ => exact Subsingleton.elim (α := Fin 1) _ _
  | ⟨1, _⟩ => rfl
  | ⟨2, _⟩ => rfl

/-- All samples' outputs. -/
def outA : S128x8x128.Idx → EReal := fun i => out m c (i 0) (i 1) (i 2)

set_option maxHeartbeats 3200000 in
/-- All samples' outputs, as the launch leaves them. -/
theorem outs : (dats m 0 c).arrAt 10 (cfgs 0).N = outA m c := by
  refine (dats m 0 c).arrAt_eq_of_covers 10 _ (by decide +kernel) fun t hf y => ?_
  blk_simp
  rw [after_10]
  refine (congrArg (k0_pay1 (k0_pay65 (outp m c t) (iblk m c 9 t) (iblk m c 3 t))) (row_form y)).trans ?_
  refine (out_at m c t (y 1) (y 2)).trans ?_
  refine (show _ = outA m c (ix3 ⟨t.val, t.isLt⟩ (y 1) (y 2)) from rfl).trans ?_
  blk_ext [idx t]

/-- The convolution's new state at a sample. -/
def ncs (t : Fin 128) (j : Fin 3) (n : Fin 3072) : EReal :=
  if h : j.val < 2 then ac m c (ix4 0 t ⟨j.val + 1, by omega⟩ n) else ax m c (ix2 t n)

theorem conv_at (t : Fin cfg0.N) (y : S1x3x24x128.Idx) : (dats m 0 c).after 11 t y =
    ncs m c ⟨t.val, t.isLt⟩ (y 1) ⟨(y 2).val * 128 + (y 3).val, by have : (y 2).val < 24 := (y 2).isLt; have : (y 3).val < 128 := (y 3).isLt; omega⟩ :=
  after_11 m c t y

/-- All samples' new states of the convolution. -/
def ncsA : S128x3x24x128.Idx → EReal := fun i =>
    ncs m c (i 0) (i 1) ⟨(i 2).val * 128 + (i 3).val, by have : (i 2).val < 24 := (i 2).isLt; have : (i 3).val < 128 := (i 3).isLt; omega⟩

set_option maxHeartbeats 3200000 in
/-- All samples' new states of the convolution, as the launch leaves them. -/
theorem convs : (dats m 0 c).arrAt 11 (cfgs 0).N = ncsA m c := by
  refine (dats m 0 c).arrAt_eq_of_covers 11 _ (by decide +kernel) fun t hf y => ?_
  blk_simp
  refine (conv_at m c t y).trans ?_
  refine (show _ = ncsA m c (ix4 ⟨t.val, t.isLt⟩ (y 1) (y 2) (y 3)) from rfl).trans ?_
  blk_ext [idx t]

/-- The outputs leave the launch as one row per sample. -/
theorem tail_out : Pipeline.afterTail₀ cfgs (dats m) 0 (V0 m) [hostOps1] c main_v17 =
    fun i => shapeCast S128x1024 ((dats m 0 c).arrAt 10 (cfgs 0).N) shapeCasts_S128x8x128_S128x1024 i := by
  unfold Pipeline.afterTail₀
  have h := Pipeline.withArrays_arr (cfgs 0).spec winFacts0.arr_inj c (V0 m c) (fun w => (dats m 0 c).arrAt w (cfgs 0).N) 10
  rw [← h]
  generalize Pipeline.withArrays (cfgs 0).spec c (V0 m c) (fun w => (dats m 0 c).arrAt w (cfgs 0).N) = σ
  simp only [hostOps1, List.flatten_cons, List.flatten_nil, List.append_nil]
  after_results
  rfl

/-- The convolution's new states leave the launch as three rows per sample. -/
theorem tail_conv : Pipeline.afterTail₀ cfgs (dats m) 0 (V0 m) [hostOps1] c main_v18 =
    fun i => shapeCast S128x3x3072 ((dats m 0 c).arrAt 11 (cfgs 0).N) shapeCasts_S128x3x24x128_S128x3x3072 i := by
  unfold Pipeline.afterTail₀
  have h := Pipeline.withArrays_arr (cfgs 0).spec winFacts0.arr_inj c (V0 m c) (fun w => (dats m 0 c).arrAt w (cfgs 0).N) 11
  rw [← h]
  generalize Pipeline.withArrays (cfgs 0).spec c (V0 m c) (fun w => (dats m 0 c).arrAt w (cfgs 0).N) = σ
  simp only [hostOps1, List.flatten_cons, List.flatten_nil, List.append_nil]
  after_results
  rfl

set_option maxHeartbeats 3200000 in
theorem algebraic : Cert.algebraic_Kernel6Ideal_Reference6Ideal := by
  pair_intro
  · run_from Cert.Kernel6Ideal.Gen.run_main m g
    all_goals first | exact W_main_arg0 m (dats m) c | exact W_main_arg1 m (dats m) c | exact W_main_arg2 m (dats m) c | exact W_main_arg3 m (dats m) c | exact W_main_arg4 m (dats m) c | exact W_main_arg5 m (dats m) c | exact W_main_arg6 m (dats m) c | exact W_main_arg7 m (dats m) c | exact W_main_arg8 m (dats m) c | exact W_main_arg9 m (dats m) c
  · hlo_run
    · rw [tail_out, outs]
      funext i
      simp only [StableHlo.TRef.toBuf, StableHlo.TRef.ofBuf, cast_eq]
      pointwise [outA, out, att, st, un, dc, be, vn, kn, qn, sl, pr, soft]
      simp only [div_128, Ideal.logistic, ne_eq, not_true, if_false, ax, ac, aba, ag, aS, aw, ab, al, ad, an]
    · rw [tail_conv, convs]
      funext i
      simp only [StableHlo.TRef.toBuf, StableHlo.TRef.ofBuf, cast_eq]
      pointwise [ncsA, ncs]
      simp only [ax, ac]
      by_cases q : (i 1).val < 2
      · rw [dif_pos (by omega), dif_pos q]
        blk_ext []
      · rw [dif_neg (by omega), dif_neg q]
        blk_ext []
    · symm
      refine (dats m 0 c).arrAt_eq_of_covers 12 _ (by decide +kernel) fun t hf y => ?_
      simp only [StableHlo.TRef.toBuf, StableHlo.TRef.ofBuf, cast_eq]
      blk_simp
      rw [after_12]
      refine (state_at m c t (y 1) (y 2) (y 3)).trans ?_
      pointwise [st, un, dc, be, vn, kn, sl, pr, soft]
      simp only [Ideal.logistic, ne_eq, not_true, if_false, ax, ac, aba, ag, aS, aw, ab, al, ad, an]
      blk_point [idx t]

end Cert.GdnStep
end
-- ==== Proof.SsdStep.lean ====
module
public import proofs.«01_k».proof.Defs
public import proofs.«01_k».proof.Proof.Gen.Kernel7Ideal.Frame
public import proofs.«01_k».proof.Proof.Gen.Reference7Ideal
public import Idealize.ShloMosaic.Lib.Claim
public import Idealize.ShloMosaic.Lib.IdealHost
public import Idealize.ShloMosaic.Lib.Routing.OpsPair
public import Idealize.ShloMosaic.Lib.Routing.OpsSet
public import Idealize.ShloMosaic.Lib.Pipeline.ValueKit
@[expose] public section
set_option maxRecDepth 16384
noncomputable section

namespace Cert.SsdStep

open Idealize.ShloMosaic Idealize.SL.Sem
open Cert.Kernel7Ideal Cert.Kernel7Ideal.Gen

/-- A row of the identity matrix picks one entry out of a sum. -/
theorem pick (d : Fin 128) (f : Fin 128 → EReal) :
    ∑ x : Fin 128, (((BitVec.setWidth 32 (IntOp.cmpi CmpIPredicate.eq (BitVec.ofNat 32 d.val) (BitVec.ofNat 32 x.val))).toInt : ℝ) : EReal) * f x = f d := by
  have one : ∀ x : Fin 128, (((BitVec.setWidth 32 (IntOp.cmpi CmpIPredicate.eq (BitVec.ofNat 32 d.val) (BitVec.ofNat 32 x.val))).toInt : ℝ) : EReal) =
      if d = x then 1 else 0 := by
    intro x
    by_cases h : d = x
    · subst h
      rw [if_pos rfl]
      have e : BitVec.setWidth 32 (IntOp.cmpi CmpIPredicate.eq (BitVec.ofNat 32 d.val) (BitVec.ofNat 32 d.val)) = 1#32 := by
        simp [IntOp.cmpi]
      rw [e]
      norm_num
    · rw [if_neg h]
      have ne : BitVec.ofNat 32 d.val ≠ BitVec.ofNat 32 x.val := by
        intro q
        apply h
        have := congrArg BitVec.toNat q
        simp only [BitVec.toNat_ofNat] at this
        exact Fin.ext (by omega)
      have e : BitVec.setWidth 32 (IntOp.cmpi CmpIPredicate.eq (BitVec.ofNat 32 d.val) (BitVec.ofNat 32 x.val)) = 0#32 := by
        simp only [IntOp.cmpi, beq_eq_false_iff_ne.2 ne]; rfl
      rw [e]
      norm_num
  simp only [one, ite_mul, one_mul, zero_mul]
  simp

/-- Dividing by 512 is multiplying by 1/512, of any extended real. -/
theorem div_512 (x : EReal) : Ideal.div x (Ideal.ofBits FTy.f32 0x44000000#32) = x * Ideal.ofBits FTy.f32 0x3B000000#32 := by
  have h : Ideal.ofBits FTy.f32 0x44000000#32 = ((512 : ℝ) : EReal) := by
    simp [Ideal.ofBits, Ideal.ieee, -EReal.coe_mul]; norm_num
  have h' : Ideal.ofBits FTy.f32 0x3B000000#32 = ((1 / 512 : ℝ) : EReal) := by
    simp [Ideal.ofBits, Ideal.ieee, -EReal.coe_mul]; norm_num
  rw [h, h', Ideal.div_coe (by norm_num)]

/-- The head's values as a column. -/
theorem turned (x : FVec Idealize.ShloMosaic.Ideal S16x128 .f32) (l : Fin 128) (r : Fin 16) :
    k0_pay16 (F := Idealize.ShloMosaic.Ideal) x k0_pay15 (ix2 l r) = x (ix2 r l) := by
  pointwise [k0_pay16, k0_pay15]
  exact pick l (fun l => x (ix2 r l))

/-- The softplus. -/
def soft (x : EReal) : EReal := max x 0 + Ideal.log1p (Ideal.exp (-(FloatOps.absf (F := Idealize.ShloMosaic.Ideal) (φ := .f32) x)))

/-- A vector of 32 entries written over the first lanes of a row. -/
theorem padded (x : S1x128.Idx → EReal) (i : IVec S2 32) (u : S32.Idx → EReal) (hi : ∀ j, (i j).toInt = 0) (h : Fin 32) :
    Host.scatter scatter_S1x128_S2_S32_0_0_01_0 (fun _ b => b) x i u (ix2 0 ⟨h.val, by omega⟩) = u (ix1 h) := by
  have lands : ∀ k : S32.Idx, scatter_S1x128_S2_S32_0_0_01_0.resultIdx? k i = some (ix2 0 ⟨h.val, by omega⟩) ↔ (k 0).val = h.val := by
    intro k
    have s0 : scatter_S1x128_S2_S32_0_0_01_0.start k i 0 = 0 := by
      unfold ScatterDims.start
      rw [dif_pos (by decide)]
      exact hi _
    have s1 : scatter_S1x128_S2_S32_0_0_01_0.start k i 1 = 0 := by
      unfold ScatterDims.start
      rw [dif_pos (by decide)]
      exact hi _
    have w0 : scatter_S1x128_S2_S32_0_0_01_0.window k 0 = 0 := by
      unfold ScatterDims.window
      rw [dif_neg (by decide)]
    have w1 : scatter_S1x128_S2_S32_0_0_01_0.window k 1 = (k 0).val := by
      unfold ScatterDims.window
      rw [dif_pos (by decide)]
      rfl
    refine (Routing.resultIdx?_ix2 (R := 1) (C := 128) scatter_S1x128_S2_S32_0_0_01_0 k i 0 ⟨h.val, by omega⟩).trans ?_
    erw [s0, s1, w0, w1]
    simp
  refine Routing.scatter_set_hit _ x i u _ _ (fun k hk => ?_) (ix1 h) ((lands _).2 rfl)
  refine congrArg u ?_
  funext q
  match q with
  | ⟨0, _⟩ => exact Fin.ext ((lands k).1 hk)

/-- The two zeros of the index. -/
theorem zero_words (j : S2.Idx) : ((concatenate S2 0 [⟨S1, (broadcastInDim S1 ![] bcast_S_S1 (constantI S_ 32 0#32) : IVec S1 32)⟩, ⟨S1, (broadcastInDim S1 ![] bcast_S_S1 (constantI S_ 32 0#32) : IVec S1 32)⟩] concatenates_S1_S1_S2_d0 : IVec S2 32) j).toInt = 0 := by
  refine congrArg BitVec.toInt (show _ = 0#32 from ?_)
  pointwise
  try simp

variable (m : (ℓ : Loc nD τ sig) → Buf (Elt Idealize.ShloMosaic.Ideal) ℓ) (c : Dev nD)

/-- Which block each window is at, point by point. -/
theorem idx : ∀ t : Fin cfg0.N, win0_0.index t = ![t.val, 0, 0] ∧ win0_1.index t = ![t.val, 0, 0] ∧ win0_2.index t = ![t.val, 0, 0, 0] ∧ win0_3.index t = ![t.val, 0, 0] ∧ win0_4.index t = ![t.val, 0, 0, 0] ∧ win0_5.index t = ![0, 0, 0] ∧ win0_6.index t = ![0, 0] ∧ win0_7.index t = ![0, 0] ∧ win0_8.index t = ![0, 0] ∧ win0_9.index t = ![0, 0] ∧ win0_10.index t = ![0, 0] ∧ win0_11.index t = ![t.val, 0, 0] ∧ win0_12.index t = ![t.val, 0, 0, 0] ∧ win0_13.index t = ![t.val, 0, 0, 0] :=
  (by decide +kernel : ∀ t : Fin grid0.N, _)

/-- The arguments: gates, the convolution's columns, its state, the time steps, states, the convolution's weights and offsets,
    the time steps' offsets, the decays' logarithms, the skip weights, the gains. -/
def az : S128x2048.Idx → EReal := m (c.tc.loc main_arg0)
def ax : S128x3072.Idx → EReal := m (c.tc.loc main_arg1)
def ac : S1x128x3x3072.Idx → EReal := m (c.tc.loc main_arg2)
def adt : S128x128.Idx → EReal := m (c.tc.loc main_arg3)
def aS : S1x128x32x64x128.Idx → EReal := m (c.tc.loc main_arg4)
def aw : S1x4x3072.Idx → EReal := m (c.tc.loc main_arg5)
def ab : S1x3072.Idx → EReal := m (c.tc.loc main_arg6)
def adb : S1x32.Idx → EReal := m (c.tc.loc main_arg7)
def al : S1x32.Idx → EReal := m (c.tc.loc main_arg8)
def ad : S1x32.Idx → EReal := m (c.tc.loc main_arg9)
def an : S1x2048.Idx → EReal := m (c.tc.loc main_arg10)

theorem V8 (i : S128x16x128.Idx) : V m c main_v8 i = m (c.tc.loc main_arg0) (ix2 (i 0) ⟨(i 1).val * 128 + (i 2).val, by have : (i 1).val < 16 := (i 1).isLt; have : (i 2).val < 128 := (i 2).isLt; omega⟩) := by
  simp only [V, V0, hostOps0, List.flatten_cons, List.flatten_nil, List.append_nil]
  entry_read
  pointwise
  try blk_ext

theorem V9 (i : S128x24x128.Idx) : V m c main_v9 i = m (c.tc.loc main_arg1) (ix2 (i 0) ⟨(i 1).val * 128 + (i 2).val, by have : (i 1).val < 24 := (i 1).isLt; have : (i 2).val < 128 := (i 2).isLt; omega⟩) := by
  simp only [V, V0, hostOps0, List.flatten_cons, List.flatten_nil, List.append_nil]
  entry_read
  pointwise
  try blk_ext

theorem V10 (i : S128x3x24x128.Idx) : V m c main_v10 i = m (c.tc.loc main_arg2) (ix4 0 (i 0) (i 1) ⟨(i 2).val * 128 + (i 3).val, by have : (i 2).val < 24 := (i 2).isLt; have : (i 3).val < 128 := (i 3).isLt; omega⟩) := by
  simp only [V, V0, hostOps0, List.flatten_cons, List.flatten_nil, List.append_nil]
  entry_read
  pointwise
  try blk_ext

theorem V11 (i : S128x1x128.Idx) : V m c main_v11 i = m (c.tc.loc main_arg3) (ix2 (i 0) (i 2)) := by
  simp only [V, V0, hostOps0, List.flatten_cons, List.flatten_nil, List.append_nil]
  entry_read
  pointwise
  try blk_ext

theorem V1 (i : S128x32x64x128.Idx) : V m c main_v1 i = m (c.tc.loc main_arg4) (ix5 0 (i 0) (i 1) (i 2) (i 3)) := by
  simp only [V, V0, hostOps0, List.flatten_cons, List.flatten_nil, List.append_nil]
  entry_read
  pointwise
  try blk_ext

theorem V12 (i : S4x24x128.Idx) : V m c main_v12 i = m (c.tc.loc main_arg5) (ix3 0 (i 0) ⟨(i 1).val * 128 + (i 2).val, by have : (i 1).val < 24 := (i 1).isLt; have : (i 2).val < 128 := (i 2).isLt; omega⟩) := by
  simp only [V, V0, hostOps0, List.flatten_cons, List.flatten_nil, List.append_nil]
  entry_read
  pointwise
  try blk_ext

theorem V13 (i : S24x128.Idx) : V m c main_v13 i = m (c.tc.loc main_arg6) (ix2 0 ⟨(i 0).val * 128 + (i 1).val, by have : (i 0).val < 24 := (i 0).isLt; have : (i 1).val < 128 := (i 1).isLt; omega⟩) := by
  simp only [V, V0, hostOps0, List.flatten_cons, List.flatten_nil, List.append_nil]
  entry_read
  pointwise
  try blk_ext

theorem V27 (i : S16x128.Idx) : V m c main_v27 i = m (c.tc.loc main_arg10) (ix2 0 ⟨(i 0).val * 128 + (i 1).val, by have : (i 0).val < 16 := (i 0).isLt; have : (i 1).val < 128 := (i 1).isLt; omega⟩) := by
  simp only [V, V0, hostOps0, List.flatten_cons, List.flatten_nil, List.append_nil]
  entry_read
  pointwise
  try blk_ext

theorem V26 (i : S16x128.Idx) : V m c main_v26 i = m (c.tc.loc main_arg9) (ix2 0 ⟨((i 0).val * 128 + (i 1).val) / 64, by have : (i 0).val < 16 := (i 0).isLt; have : (i 1).val < 128 := (i 1).isLt; omega⟩) := by
  simp only [V, V0, hostOps0, List.flatten_cons, List.flatten_nil, List.append_nil]
  entry_read
  pointwise
  try blk_ext

theorem V18 (h : Fin 32) : V m c main_v18 (ix2 0 ⟨h.val, by omega⟩) = m (c.tc.loc main_arg7) (ix2 0 h) := by
  simp only [V, V0, hostOps0, List.flatten_cons, List.flatten_nil, List.append_nil]
  entry_read
  rw [padded _ _ _ zero_words h]
  pointwise
  try blk_ext

theorem V23 (h : Fin 32) : V m c main_v23 (ix2 0 ⟨h.val, by omega⟩) = m (c.tc.loc main_arg8) (ix2 0 h) := by
  simp only [V, V0, hostOps0, List.flatten_cons, List.flatten_nil, List.append_nil]
  entry_read
  rw [padded _ _ _ zero_words h]
  pointwise
  try blk_ext

theorem z_at (t : Fin cfg0.N) (r : Fin 16) (d : Fin 128) : iblk m c 0 t (ix3 0 r d) = az m c (ix2 ⟨t.val, t.isLt⟩ ⟨r.val * 128 + d.val, by omega⟩) := by
  show V m c main_v8 _ = _
  rw [V8]
  unfold az
  blk_ext [idx t]

theorem x_at (t : Fin cfg0.N) (r : Fin 24) (d : Fin 128) : iblk m c 1 t (ix3 0 r d) = ax m c (ix2 ⟨t.val, t.isLt⟩ ⟨r.val * 128 + d.val, by omega⟩) := by
  show V m c main_v9 _ = _
  rw [V9]
  unfold ax
  blk_ext [idx t]

theorem c_at (t : Fin cfg0.N) (j : Fin 3) (r : Fin 24) (d : Fin 128) : iblk m c 2 t (ix4 0 j r d) = ac m c (ix4 0 ⟨t.val, t.isLt⟩ j ⟨r.val * 128 + d.val, by omega⟩) := by
  show V m c main_v10 _ = _
  rw [V10]
  unfold ac
  blk_ext [idx t]

theorem dt_at (t : Fin cfg0.N) (l : Fin 128) : iblk m c 3 t (ix3 0 0 l) = adt m c (ix2 ⟨t.val, t.isLt⟩ l) := by
  show V m c main_v11 _ = _
  rw [V11]
  unfold adt
  blk_ext [idx t]

theorem S_at (t : Fin cfg0.N) (h : Fin 32) (p : Fin 64) (n : Fin 128) : iblk m c 4 t (ix4 0 h p n) = aS m c (ix5 0 ⟨t.val, t.isLt⟩ h p n) := by
  show V m c main_v1 _ = _
  rw [V1]
  unfold aS
  blk_ext [idx t]

theorem w_at (t : Fin cfg0.N) (j : Fin 4) (r : Fin 24) (d : Fin 128) : iblk m c 5 t (ix3 j r d) = aw m c (ix3 0 j ⟨r.val * 128 + d.val, by omega⟩) := by
  show V m c main_v12 _ = _
  rw [V12]
  unfold aw
  blk_ext [idx t]

theorem b_at (t : Fin cfg0.N) (r : Fin 24) (d : Fin 128) : iblk m c 6 t (ix2 r d) = ab m c (ix2 0 ⟨r.val * 128 + d.val, by omega⟩) := by
  show V m c main_v13 _ = _
  rw [V13]
  unfold ab
  blk_ext [idx t]

theorem dsk_at (t : Fin cfg0.N) (r : Fin 16) (d : Fin 128) : iblk m c 9 t (ix2 r d) = ad m c (ix2 0 ⟨(r.val * 128 + d.val) / 64, by omega⟩) := by
  show V m c main_v26 _ = _
  rw [V26]
  unfold ad
  blk_ext [idx t]

theorem gain_at (t : Fin cfg0.N) (r : Fin 16) (d : Fin 128) : iblk m c 10 t (ix2 r d) = an m c (ix2 0 ⟨r.val * 128 + d.val, by omega⟩) := by
  show V m c main_v27 _ = _
  rw [V27]
  unfold an
  blk_ext [idx t]

theorem db_at (t : Fin cfg0.N) (h : Fin 32) : iblk m c 7 t (ix2 0 ⟨h.val, by omega⟩) = adb m c (ix2 0 h) := by
  refine (show _ = V m c main_v18 (ix2 0 ⟨h.val, by omega⟩) from ?_).trans (V18 m c h)
  simp only [iblk]
  blk_ext [idx t]

theorem al_at (t : Fin cfg0.N) (h : Fin 32) : iblk m c 8 t (ix2 0 ⟨h.val, by omega⟩) = al m c (ix2 0 h) := by
  refine (show _ = V m c main_v23 (ix2 0 ⟨h.val, by omega⟩) from ?_).trans (V23 m c h)
  simp only [iblk]
  blk_ext [idx t]

/-- What a grid point computes first: the convolution's rows, the time steps, the decays, the values as columns. -/
def pre (t : Fin cfg0.N) : FVec Idealize.ShloMosaic.Ideal S24x128 .f32 :=
  (k0_pay5 (iblk m c 1 t) (View.ld (S := S1x3x24x128) (Val := Elt Idealize.ShloMosaic.Ideal) (iblk m c 2 t) (Rect.unit ![0, 0, 0, 0] ![1, 1, 24, 128] inb_S1x3x24x128_S1x1x24x128_0_0_0_0))
    (View.ld (S := S1x3x24x128) (Val := Elt Idealize.ShloMosaic.Ideal) (iblk m c 2 t) (Rect.unit ![0, 1, 0, 0] ![1, 1, 24, 128] inb_S1x3x24x128_S1x1x24x128_0_1_0_0))
    (View.ld (S := S1x3x24x128) (Val := Elt Idealize.ShloMosaic.Ideal) (iblk m c 2 t) (Rect.unit ![0, 2, 0, 0] ![1, 1, 24, 128] inb_S1x3x24x128_S1x1x24x128_0_2_0_0)) (iblk m c 6 t)
    (View.ld (S := S4x24x128) (Val := Elt Idealize.ShloMosaic.Ideal) (iblk m c 5 t) (Rect.unit ![0, 0, 0] ![1, 24, 128] inb_S4x24x128_S1x24x128_0_0_0))
    (View.ld (S := S4x24x128) (Val := Elt Idealize.ShloMosaic.Ideal) (iblk m c 5 t) (Rect.unit ![1, 0, 0] ![1, 24, 128] inb_S4x24x128_S1x24x128_1_0_0))
    (View.ld (S := S4x24x128) (Val := Elt Idealize.ShloMosaic.Ideal) (iblk m c 5 t) (Rect.unit ![2, 0, 0] ![1, 24, 128] inb_S4x24x128_S1x24x128_2_0_0))
    (View.ld (S := S4x24x128) (Val := Elt Idealize.ShloMosaic.Ideal) (iblk m c 5 t) (Rect.unit ![3, 0, 0] ![1, 24, 128] inb_S4x24x128_S1x24x128_3_0_0)))
def dd (t : Fin cfg0.N) : FVec Idealize.ShloMosaic.Ideal S1x128 .f32 := k0_pay13 (iblk m c 3 t) (iblk m c 7 t)
def gg (t : Fin cfg0.N) : FVec Idealize.ShloMosaic.Ideal S1x128 .f32 := k0_pay14 (iblk m c 3 t) (iblk m c 7 t) (iblk m c 8 t)
def cc (t : Fin cfg0.N) : FVec Idealize.ShloMosaic.Ideal S128x16 .f32 := k0_pay16 (k0_pay10 (pre m c t)) k0_pay15
def bb (t : Fin cfg0.N) : FVec Idealize.ShloMosaic.Ideal S4x128 .f32 := k0_pay11 (pre m c t)
def qq (t : Fin cfg0.N) : FVec Idealize.ShloMosaic.Ideal S4x128 .f32 := k0_pay12 (pre m c t)
def olds (t : Fin cfg0.N) : FVec Idealize.ShloMosaic.Ideal S1x32x64x128 .f32 := iblk m c 4 t

/-- One head's new state. -/
def upd (C : FVec Idealize.ShloMosaic.Ideal S128x16 .f32) (G D : FVec Idealize.ShloMosaic.Ideal S1x128 .f32) (B : FVec Idealize.ShloMosaic.Ideal S4x128 .f32) (S : FVec Idealize.ShloMosaic.Ideal S1x32x64x128 .f32) (h : Fin 32) (p : Fin 64) (n : Fin 128) : EReal :=
  (G (ix2 0 ⟨h.val, by omega⟩) : EReal) * (S (ix4 0 h p n) : EReal) + (C (ix2 ⟨h.val % 2 * 64 + p.val, by omega⟩ ⟨h.val / 2, by omega⟩) : EReal) * (D (ix2 0 ⟨h.val, by omega⟩) : EReal) * (B (ix2 ⟨h.val / 8, by omega⟩ n) : EReal)

/-- All heads' states at once. -/
def upds (C : FVec Idealize.ShloMosaic.Ideal S128x16 .f32) (G D : FVec Idealize.ShloMosaic.Ideal S1x128 .f32) (B : FVec Idealize.ShloMosaic.Ideal S4x128 .f32) (S : FVec Idealize.ShloMosaic.Ideal S1x32x64x128 .f32) : FVec Idealize.ShloMosaic.Ideal S1x32x64x128 .f32 :=
  fun y => upd C G D B S (y 1) (y 2) (y 3)

set_option maxHeartbeats 6400000 in
/-- The new state a grid point leaves. -/
theorem after_13 (t : Fin cfg0.N) (y : S1x32x64x128.Idx) : (dats m 0 c).after 13 t y = upds (cc m c t) (gg m c t) (dd m c t) (bb m c t) (olds m c t) y := by
  rw [after0_13]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  have e : (k0_pay5 (iblk m c 1 t) (View.ld (S := S1x3x24x128) (Val := Elt Idealize.ShloMosaic.Ideal) (iblk m c 2 t) (Rect.unit ![0, 0, 0, 0] ![1, 1, 24, 128] inb_S1x3x24x128_S1x1x24x128_0_0_0_0))
    (View.ld (S := S1x3x24x128) (Val := Elt Idealize.ShloMosaic.Ideal) (iblk m c 2 t) (Rect.unit ![0, 1, 0, 0] ![1, 1, 24, 128] inb_S1x3x24x128_S1x1x24x128_0_1_0_0))
    (View.ld (S := S1x3x24x128) (Val := Elt Idealize.ShloMosaic.Ideal) (iblk m c 2 t) (Rect.unit ![0, 2, 0, 0] ![1, 1, 24, 128] inb_S1x3x24x128_S1x1x24x128_0_2_0_0)) (iblk m c 6 t)
    (View.ld (S := S4x24x128) (Val := Elt Idealize.ShloMosaic.Ideal) (iblk m c 5 t) (Rect.unit ![0, 0, 0] ![1, 24, 128] inb_S4x24x128_S1x24x128_0_0_0))
    (View.ld (S := S4x24x128) (Val := Elt Idealize.ShloMosaic.Ideal) (iblk m c 5 t) (Rect.unit ![1, 0, 0] ![1, 24, 128] inb_S4x24x128_S1x24x128_1_0_0))
    (View.ld (S := S4x24x128) (Val := Elt Idealize.ShloMosaic.Ideal) (iblk m c 5 t) (Rect.unit ![2, 0, 0] ![1, 24, 128] inb_S4x24x128_S1x24x128_2_0_0))
    (View.ld (S := S4x24x128) (Val := Elt Idealize.ShloMosaic.Ideal) (iblk m c 5 t) (Rect.unit ![3, 0, 0] ![1, 24, 128] inb_S4x24x128_S1x24x128_3_0_0))) = pre m c t := rfl
  rw [e]
  have e2 : k0_pay13 (iblk m c 3 t) (iblk m c 7 t) = dd m c t := rfl
  have e3 : k0_pay14 (iblk m c 3 t) (iblk m c 7 t) (iblk m c 8 t) = gg m c t := rfl
  have e5 : iblk m c 4 t = olds m c t := rfl
  have e4 : k0_pay16 (k0_pay10 (pre m c t)) k0_pay15 = cc m c t := rfl
  have e6 : k0_pay11 (pre m c t) = bb m c t := rfl
  simp only [k0_pay17, k0_pay18, k0_pay19]
  rw [e4, e2, e3, e5, e6]
  clear e e2 e3 e4 e5 e6
  generalize cc m c t = C
  generalize bb m c t = B
  generalize dd m c t = D
  generalize gg m c t = G
  generalize olds m c t = S
  unfold upds upd
  canon_tiles x h
  all_goals
    pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101]
    blk_point []

/-- The convolution's new state a grid point leaves. -/
theorem after_12 (t : Fin cfg0.N) (y : S1x3x24x128.Idx) : (dats m 0 c).after 12 t y = if h : (y 1).val < 2 then
    ac m c (ix4 0 ⟨t.val, t.isLt⟩ ⟨(y 1).val + 1, by omega⟩ ⟨(y 2).val * 128 + (y 3).val, by have : (y 2).val < 24 := (y 2).isLt; have : (y 3).val < 128 := (y 3).isLt; omega⟩) else
    ax m c (ix2 ⟨t.val, t.isLt⟩ ⟨(y 2).val * 128 + (y 3).val, by have : (y 2).val < 24 := (y 2).isLt; have : (y 3).val < 128 := (y 3).isLt; omega⟩) := by
  rw [after0_12]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  canon_tiles x h
  · rw [dif_neg (by omega)]
    pointwise [k0_pay8, k0_pay2]
    refine (x_at m c t _ _).trans ?_
    blk_ext []
  · rw [dif_pos (by omega)]
    pointwise [k0_pay7, k0_pay4]
    refine (c_at m c t _ _ _).trans ?_
    blk_ext []
  · rw [dif_pos (by omega)]
    pointwise [k0_pay6, k0_pay3]
    refine (c_at m c t _ _ _).trans ?_
    blk_ext []

/-- The convolution's rows, entry by entry, from their pieces. -/
theorem conv_of (x : Vec Idealize.ShloMosaic.Ideal S1x24x128 .f32) (c0 c1 c2 : Vec Idealize.ShloMosaic.Ideal S1x1x24x128 .f32) (b : Vec Idealize.ShloMosaic.Ideal S24x128 .f32) (w0 w1 w2 w3 : Vec Idealize.ShloMosaic.Ideal S1x24x128 .f32) (r : Fin 24) (d : Fin 128) :
    k0_pay5 x c0 c1 c2 b w0 w1 w2 w3 (ix2 r d) = (b (ix2 r d) : EReal) + (c0 (ix4 0 0 r d) : EReal) * (w0 (ix3 0 r d) : EReal) + (c1 (ix4 0 0 r d) : EReal) * (w1 (ix3 0 r d) : EReal) +
      (c2 (ix4 0 0 r d) : EReal) * (w2 (ix3 0 r d) : EReal) + (x (ix3 0 r d) : EReal) * (w3 (ix3 0 r d) : EReal) := by
  pointwise [k0_pay5, k0_pay3, k0_pay4, k0_pay2]
  rw [mul_comm (w0 _ : EReal), mul_comm (w1 _ : EReal), mul_comm (w2 _ : EReal), mul_comm (w3 _ : EReal)]

/-- The convolution of a sample at a column, from the arguments. -/
def pr (t : Fin 128) (n : Fin 3072) : EReal :=
  ab m c (ix2 0 n) + ac m c (ix4 0 t 0 n) * aw m c (ix3 0 0 n) + ac m c (ix4 0 t 1 n) * aw m c (ix3 0 1 n) + ac m c (ix4 0 t 2 n) * aw m c (ix3 0 2 n) + ax m c (ix2 t n) * aw m c (ix3 0 3 n)

theorem pre_at (t : Fin cfg0.N) (r : Fin 24) (d : Fin 128) : pre m c t (ix2 r d) = pr m c ⟨t.val, t.isLt⟩ ⟨r.val * 128 + d.val, by omega⟩ := by
  refine (conv_of _ _ _ _ _ _ _ _ _ r d).trans ?_
  unfold pr
  have cj : ∀ (j : Fin 3) (inb : _), View.ld (S := S1x3x24x128) (Val := Elt Idealize.ShloMosaic.Ideal) (iblk m c 2 t) (Rect.unit ![0, j.val, 0, 0] ![1, 1, 24, 128] inb) (ix4 0 0 r d) = ac m c (ix4 0 ⟨t.val, t.isLt⟩ j ⟨r.val * 128 + d.val, by omega⟩) := by
    intro j inb
    refine (congrArg (iblk m c 2 t) ?_).trans (c_at m c t j r d)
    funext a
    apply Fin.ext
    fin_cases a <;> simp [Rect.unit, Rect.toLoadRect, LoadRect.idx]
  have wj : ∀ (j : Fin 4) (inb : _), View.ld (S := S4x24x128) (Val := Elt Idealize.ShloMosaic.Ideal) (iblk m c 5 t) (Rect.unit ![j.val, 0, 0] ![1, 24, 128] inb) (ix3 0 r d) = aw m c (ix3 0 j ⟨r.val * 128 + d.val, by omega⟩) := by
    intro j inb
    refine (congrArg (iblk m c 5 t) ?_).trans (w_at m c t j r d)
    funext a
    apply Fin.ext
    fin_cases a <;> simp [Rect.unit, Rect.toLoadRect, LoadRect.idx]
  exact congrArg₂ (· + ·) (congrArg₂ (· + ·) (congrArg₂ (· + ·) (congrArg₂ (· + ·) (b_at m c t r d) (congrArg₂ (· * ·) (cj 0 _) (wj 0 _)))
    (congrArg₂ (· * ·) (cj 1 _) (wj 1 _))) (congrArg₂ (· * ·) (cj 2 _) (wj 2 _))) (congrArg₂ (· * ·) (x_at m c t r d) (wj 3 _))

/-- The convolution's output, through the silu. -/
def sl (t : Fin 128) (n : Fin 3072) : EReal := pr m c t n * Ideal.logistic (pr m c t n)

/-- The rows of values, of input and of output directions, from the convolution's rows. -/
theorem silu_x (p : FVec Idealize.ShloMosaic.Ideal S24x128 .f32) (r : Fin 16) (d : Fin 128) : k0_pay10 p (ix2 r d) =
    (p (ix2 ⟨r.val, by omega⟩ d) : EReal) * Ideal.logistic (p (ix2 ⟨r.val, by omega⟩ d)) := by
  pointwise [k0_pay10, k0_pay9]
theorem silu_B (p : FVec Idealize.ShloMosaic.Ideal S24x128 .f32) (r : Fin 4) (d : Fin 128) : k0_pay11 p (ix2 r d) =
    (p (ix2 ⟨16 + r.val, by omega⟩ d) : EReal) * Ideal.logistic (p (ix2 ⟨16 + r.val, by omega⟩ d)) := by
  pointwise [k0_pay11, k0_pay9]
theorem silu_C (p : FVec Idealize.ShloMosaic.Ideal S24x128 .f32) (r : Fin 4) (d : Fin 128) : k0_pay12 p (ix2 r d) =
    (p (ix2 ⟨20 + r.val, by omega⟩ d) : EReal) * Ideal.logistic (p (ix2 ⟨20 + r.val, by omega⟩ d)) := by
  pointwise [k0_pay12, k0_pay9]

/-- A row's silu is the silu of its columns. -/
theorem sl_of (t : Fin cfg0.N) (r : Fin 24) (d : Fin 128) (n : Fin 3072) (h : r.val * 128 + d.val = n.val) :
    (pre m c t (ix2 r d) : EReal) * Ideal.logistic (pre m c t (ix2 r d)) = sl m c ⟨t.val, t.isLt⟩ n := by
  have e := (pre_at m c t r d).trans (congrArg (pr m c ⟨t.val, t.isLt⟩) (Fin.ext h : (⟨r.val * 128 + d.val, by omega⟩ : Fin 3072) = n))
  exact congrArg (fun v : EReal => v * Ideal.logistic v) e

theorem x_row (t : Fin cfg0.N) (r : Fin 16) (d : Fin 128) : k0_pay10 (pre m c t) (ix2 r d) = sl m c ⟨t.val, t.isLt⟩ ⟨r.val * 128 + d.val, by omega⟩ :=
  (silu_x _ r d).trans (sl_of m c t _ d _ rfl)
theorem X_at (t : Fin cfg0.N) (h : Fin 32) (p : Fin 64) : cc m c t (ix2 ⟨h.val % 2 * 64 + p.val, by omega⟩ ⟨h.val / 2, by omega⟩) = sl m c ⟨t.val, t.isLt⟩ ⟨h.val * 64 + p.val, by omega⟩ := by
  refine (turned _ _ _).trans ((silu_x _ _ _).trans (sl_of m c t _ _ _ ?_))
  dsimp only
  omega
theorem B_at (t : Fin cfg0.N) (g : Fin 4) (n : Fin 128) : bb m c t (ix2 g n) = sl m c ⟨t.val, t.isLt⟩ ⟨2048 + (g.val * 128 + n.val), by omega⟩ := by
  refine (silu_B _ g n).trans (sl_of m c t _ n _ ?_)
  dsimp only
  omega
theorem C_at (t : Fin cfg0.N) (g : Fin 4) (n : Fin 128) : qq m c t (ix2 g n) = sl m c ⟨t.val, t.isLt⟩ ⟨2560 + (g.val * 128 + n.val), by omega⟩ := by
  refine (silu_C _ g n).trans (sl_of m c t _ n _ ?_)
  dsimp only
  omega

/-- The time steps and the decays of a row of 128 lanes. -/
theorem dt_of (a : Vec Idealize.ShloMosaic.Ideal S1x1x128 .f32) (b : Vec Idealize.ShloMosaic.Ideal S1x128 .f32) (l : Fin 128) :
    k0_pay13 a b (ix2 0 l) = soft ((a (ix3 0 0 l) : EReal) + (b (ix2 0 l) : EReal)) := by
  unfold soft
  pointwise [k0_pay13]
  simp only [zero_sub]
theorem da_of (a : Vec Idealize.ShloMosaic.Ideal S1x1x128 .f32) (b e : Vec Idealize.ShloMosaic.Ideal S1x128 .f32) (l : Fin 128) :
    k0_pay14 a b e (ix2 0 l) = Ideal.exp (soft ((a (ix3 0 0 l) : EReal) + (b (ix2 0 l) : EReal)) * -(Ideal.exp (e (ix2 0 l)))) := by
  unfold soft
  pointwise [k0_pay14, k0_pay13]
  simp only [zero_sub]

/-- The time step and the decay of a head. -/
def dT (t : Fin 128) (h : Fin 32) : EReal := soft (adt m c (ix2 t ⟨h.val, by omega⟩) + adb m c (ix2 0 h))
def dA (t : Fin 128) (h : Fin 32) : EReal := Ideal.exp (dT m c t h * -(Ideal.exp (al m c (ix2 0 h))))

theorem dT_at (t : Fin cfg0.N) (h : Fin 32) : dd m c t (ix2 0 ⟨h.val, by omega⟩) = dT m c ⟨t.val, t.isLt⟩ h :=
  (dt_of _ _ _).trans (congrArg soft (congrArg₂ (· + ·) (dt_at m c t _) (db_at m c t h)))
theorem dA_at (t : Fin cfg0.N) (h : Fin 32) : gg m c t (ix2 0 ⟨h.val, by omega⟩) = dA m c ⟨t.val, t.isLt⟩ h := by
  refine (da_of _ _ _ _).trans ?_
  unfold dA dT
  exact congrArg Ideal.exp (congrArg₂ (fun a b => soft a * -(Ideal.exp b)) (congrArg₂ (· + ·) (dt_at m c t _) (db_at m c t h)) (al_at m c t h))

/-- The new state. -/
def st (t : Fin 128) (h : Fin 32) (p : Fin 64) (n : Fin 128) : EReal :=
  dA m c t h * aS m c (ix5 0 t h p n) + sl m c t ⟨h.val * 64 + p.val, by omega⟩ * dT m c t h * sl m c t ⟨2048 + (h.val / 8 * 128 + n.val), by omega⟩

theorem state_at (t : Fin cfg0.N) (h : Fin 32) (p : Fin 64) (n : Fin 128) : upd (cc m c t) (gg m c t) (dd m c t) (bb m c t) (olds m c t) h p n = st m c ⟨t.val, t.isLt⟩ h p n := by
  unfold upd st
  exact congrArg₂ (· + ·) (congrArg₂ (· * ·) (dA_at m c t h) (S_at m c t h p n))
    (congrArg₂ (· * ·) (congrArg₂ (· * ·) (X_at m c t h p) (dT_at m c t h)) (B_at m c t _ n))

/-- The convolution's new state at a sample. -/
def ncs (t : Fin 128) (j : Fin 3) (n : Fin 3072) : EReal :=
  if h : j.val < 2 then ac m c (ix4 0 t ⟨j.val + 1, by omega⟩ n) else ax m c (ix2 t n)

theorem conv_at (t : Fin cfg0.N) (y : S1x3x24x128.Idx) : (dats m 0 c).after 12 t y =
    ncs m c ⟨t.val, t.isLt⟩ (y 1) ⟨(y 2).val * 128 + (y 3).val, by have : (y 2).val < 24 := (y 2).isLt; have : (y 3).val < 128 := (y 3).isLt; omega⟩ :=
  after_12 m c t y

/-- All samples' new states of the convolution. -/
def ncsA : S128x3x24x128.Idx → EReal := fun i =>
    ncs m c (i 0) (i 1) ⟨(i 2).val * 128 + (i 3).val, by have : (i 2).val < 24 := (i 2).isLt; have : (i 3).val < 128 := (i 3).isLt; omega⟩

set_option maxHeartbeats 3200000 in
/-- All samples' new states of the convolution, as the launch leaves them. -/
theorem convs : (dats m 0 c).arrAt 12 (cfgs 0).N = ncsA m c := by
  refine (dats m 0 c).arrAt_eq_of_covers 12 _ (by decide +kernel) fun t hf y => ?_
  blk_simp
  refine (conv_at m c t y).trans ?_
  refine (show _ = ncsA m c (ix4 ⟨t.val, t.isLt⟩ (y 1) (y 2) (y 3)) from rfl).trans ?_
  blk_ext [idx t]

/-- The convolution's new states leave the launch as three rows per sample. -/
theorem tail_conv : Pipeline.afterTail₀ cfgs (dats m) 0 (V0 m) [hostOps1] c main_v30 =
    fun i => shapeCast S128x3x3072 ((dats m 0 c).arrAt 12 (cfgs 0).N) shapeCasts_S128x3x24x128_S128x3x3072 i := by
  unfold Pipeline.afterTail₀
  have h := Pipeline.withArrays_arr (cfgs 0).spec winFacts0.arr_inj c (V0 m c) (fun w => (dats m 0 c).arrAt w (cfgs 0).N) 12
  rw [← h]
  generalize Pipeline.withArrays (cfgs 0).spec c (V0 m c) (fun w => (dats m 0 c).arrAt w (cfgs 0).N) = σ
  simp only [hostOps1, List.flatten_cons, List.flatten_nil, List.append_nil]
  after_results
  rfl

theorem upd_congr (C : FVec Idealize.ShloMosaic.Ideal S128x16 .f32) (G D : FVec Idealize.ShloMosaic.Ideal S1x128 .f32) (B : FVec Idealize.ShloMosaic.Ideal S4x128 .f32) (S : FVec Idealize.ShloMosaic.Ideal S1x32x64x128 .f32) {h h' : Fin 32} {p p' : Fin 64} (n : Fin 128) (a : h.val = h'.val) (b : p.val = p'.val) : upd C G D B S h p n = upd C G D B S h' p' n := by
  obtain rfl : h = h' := Fin.ext a
  obtain rfl : p = p' := Fin.ext b
  rfl

/-- The states of one group of eight heads. -/
def grp (C : FVec Idealize.ShloMosaic.Ideal S128x16 .f32) (G D : FVec Idealize.ShloMosaic.Ideal S1x128 .f32) (B : FVec Idealize.ShloMosaic.Ideal S4x128 .f32) (S : FVec Idealize.ShloMosaic.Ideal S1x32x64x128 .f32) (g : Fin 4) : FVec Idealize.ShloMosaic.Ideal S1x8x64x128 .f32 := fun i =>
  upd C G D B S ⟨8 * g.val + (i 1).val, by have : (i 1).val < 8 := (i 1).isLt; omega⟩ (i 2) (i 3)

/-- A group's states, read back from the rows written so far. -/
theorem box_of {sp : Space} (v : View sig .tc sp S1x32x64x128 .f32) (C : FVec Idealize.ShloMosaic.Ideal S128x16 .f32) (G D : FVec Idealize.ShloMosaic.Ideal S1x128 .f32) (B : FVec Idealize.ShloMosaic.Ideal S4x128 .f32) (S : FVec Idealize.ShloMosaic.Ideal S1x32x64x128 .f32) (g : Fin 4) (o : Nat) (ho : o = 8 * g.val)
    (L : List (View.Piece (Elt Idealize.ShloMosaic.Ideal) S1x32x64x128 .f32)) (inb : _)
    (h : ∀ y : S1x32x64x128.Idx, o ≤ (y 1).val → (y 1).val < o + 8 → View.canon L y = upd C G D B S (y 1) (y 2) (y 3)) :
    v.readCov L (Rect.unit (s := S1x32x64x128) ![0, o, 0, 0] ![1, 8, 64, 128] inb).toLoadRect = grp C G D B S g := by
  rw [View.readCov_eq_canon']
  funext i
  have l : (i (1 : Fin 4)).val < 8 := (i (1 : Fin 4)).isLt
  have e1 : ((Rect.unit (s := S1x32x64x128) ![0, o, 0, 0] ![1, 8, 64, 128] inb).toLoadRect.idx i 1).val = o + (i (1 : Fin 4)).val := by
    simp [Rect.unit, Rect.toLoadRect, LoadRect.idx]
  refine (h _ (by omega) (by omega)).trans ?_
  unfold grp
  subst ho
  congr 1
  · exact Fin.ext e1
  · apply Fin.ext; simp [Rect.unit, Rect.toLoadRect, LoadRect.idx]
  · apply Fin.ext; simp [Rect.unit, Rect.toLoadRect, LoadRect.idx]

/-- The rows of outputs, read back whole. -/
theorem whole_of {sp : Space} (v : View sig .tc sp S1x16x128 .f32) (f : FVec Idealize.ShloMosaic.Ideal S1x16x128 .f32)
    (L : List (View.Piece (Elt Idealize.ShloMosaic.Ideal) S1x16x128 .f32)) (inb : _) (h : ∀ y, View.canon L y = f y) :
    v.readCov L (Rect.unit (s := S1x16x128) ![0, 0, 0] ![1, 16, 128] inb).toLoadRect = f := by
  rw [View.readCov_eq_canon']
  funext i
  refine (h _).trans (congrArg f ?_)
  funext a
  apply Fin.ext
  fin_cases a <;> simp [Rect.unit, Rect.toLoadRect, LoadRect.idx]

/-- Later writes that hold an entry decide it. -/
theorem canon_front (A L : List (View.Piece (Elt Idealize.ShloMosaic.Ideal) S1x16x128 .f32)) (y : S1x16x128.Idx) (h : ∃ p ∈ A, y ∈ p.1.set) :
    View.canon (A ++ L) y = View.canon A y := by
  induction A with
  | nil => obtain ⟨p, hp, _⟩ := h; exact absurd hp List.not_mem_nil
  | cons p A ih =>
    by_cases hm : y ∈ p.1.set
    · obtain ⟨x, rfl⟩ := p.1.exists_idx_of_mem hm
      exact (View.canon_cons_emb p.1 p.2 (A ++ L) x).trans (View.canon_cons_emb p.1 p.2 A x).symm
    · refine (View.canon_cons_of_not_mem p (A ++ L) hm).trans ((ih ?_).trans (View.canon_cons_of_not_mem p A hm).symm)
      obtain ⟨q, hq, hyq⟩ := h
      rcases List.mem_cons.mp hq with rfl | hq'
      · exact absurd hyq hm
      · exact ⟨q, hq', hyq⟩

/-- The state read in the output direction. -/
def raw (C : FVec Idealize.ShloMosaic.Ideal S128x16 .f32) (G D : FVec Idealize.ShloMosaic.Ideal S1x128 .f32) (B : FVec Idealize.ShloMosaic.Ideal S4x128 .f32) (S : FVec Idealize.ShloMosaic.Ideal S1x32x64x128 .f32) (Q : FVec Idealize.ShloMosaic.Ideal S4x128 .f32) : FVec Idealize.ShloMosaic.Ideal S1x16x128 .f32 := fun y =>
  ∑ s : Fin 128, (Q (ix2 ⟨(y 1).val / 4, by have : (y 1).val < 16 := (y 1).isLt; omega⟩ s) : EReal) *
    upd C G D B S ⟨2 * (y 1).val + (y 2).val / 64, by have : (y 1).val < 16 := (y 1).isLt; have : (y 2).val < 128 := (y 2).isLt; omega⟩ ⟨(y 2).val % 64, by omega⟩ s

/-- The four rows of a group, normed and times their gain, out of all rows before the norm. -/
def normed (P g : FVec Idealize.ShloMosaic.Ideal S16x128 .f32) : FVec Idealize.ShloMosaic.Ideal S1x16x128 .f32 := fun y =>
  (P (ix2 (y 1) (y 2)) : EReal) * Ideal.rsqrt ((∑ a : Fin 4, ∑ l : Fin 128,
    (P (ix2 ⟨(y 1).val / 4 * 4 + a.val, by have : (y 1).val < 16 := (y 1).isLt; omega⟩ l) : EReal) * P (ix2 ⟨(y 1).val / 4 * 4 + a.val, by have : (y 1).val < 16 := (y 1).isLt; omega⟩ l)) * Ideal.ofBits FTy.f32 0x3B000000#32 + Ideal.ofBits FTy.f32 0x358637BD#32) *
    (g (ix2 (y 1) (y 2)) : EReal)

/-! The sixteen output rows of 128 columns, each a product of a group's output direction with two heads' states. -/

theorem row0 (Q : FVec Idealize.ShloMosaic.Ideal S4x128 .f32) (R : FVec Idealize.ShloMosaic.Ideal S1x8x64x128 .f32) (x : S1x1x128.Idx) : k0_pay32 Q R x =
    ∑ s : Fin 128, (Q (ix2 ⟨0, by omega⟩ s) : EReal) * (R (ix4 0 ⟨0 + (x 2).val / 64, by have : (x 2).val < 128 := (x 2).isLt; omega⟩ ⟨(x 2).val % 64, by omega⟩ s) : EReal) := by
  pointwise [k0_pay32, k0_pay31]
theorem row1 (Q : FVec Idealize.ShloMosaic.Ideal S4x128 .f32) (R : FVec Idealize.ShloMosaic.Ideal S1x8x64x128 .f32) (x : S1x1x128.Idx) : k0_pay33 Q R x =
    ∑ s : Fin 128, (Q (ix2 ⟨0, by omega⟩ s) : EReal) * (R (ix4 0 ⟨2 + (x 2).val / 64, by have : (x 2).val < 128 := (x 2).isLt; omega⟩ ⟨(x 2).val % 64, by omega⟩ s) : EReal) := by
  pointwise [k0_pay33, k0_pay31]
  blk_point []
theorem row2 (Q : FVec Idealize.ShloMosaic.Ideal S4x128 .f32) (R : FVec Idealize.ShloMosaic.Ideal S1x8x64x128 .f32) (x : S1x1x128.Idx) : k0_pay34 (k0_pay31 Q R) x =
    ∑ s : Fin 128, (Q (ix2 ⟨0, by omega⟩ s) : EReal) * (R (ix4 0 ⟨4 + (x 2).val / 64, by have : (x 2).val < 128 := (x 2).isLt; omega⟩ ⟨(x 2).val % 64, by omega⟩ s) : EReal) := by
  pointwise [k0_pay34, k0_pay31]
  blk_point []
theorem row3 (Q : FVec Idealize.ShloMosaic.Ideal S4x128 .f32) (R : FVec Idealize.ShloMosaic.Ideal S1x8x64x128 .f32) (x : S1x1x128.Idx) : k0_pay35 (k0_pay31 Q R) x =
    ∑ s : Fin 128, (Q (ix2 ⟨0, by omega⟩ s) : EReal) * (R (ix4 0 ⟨6 + (x 2).val / 64, by have : (x 2).val < 128 := (x 2).isLt; omega⟩ ⟨(x 2).val % 64, by omega⟩ s) : EReal) := by
  pointwise [k0_pay35, k0_pay31]
  blk_point []
theorem row4 (Q : FVec Idealize.ShloMosaic.Ideal S4x128 .f32) (R : FVec Idealize.ShloMosaic.Ideal S1x8x64x128 .f32) (x : S1x1x128.Idx) : k0_pay49 (k0_pay48 Q R) x =
    ∑ s : Fin 128, (Q (ix2 ⟨1, by omega⟩ s) : EReal) * (R (ix4 0 ⟨0 + (x 2).val / 64, by have : (x 2).val < 128 := (x 2).isLt; omega⟩ ⟨(x 2).val % 64, by omega⟩ s) : EReal) := by
  pointwise [k0_pay49, k0_pay48]
theorem row5 (Q : FVec Idealize.ShloMosaic.Ideal S4x128 .f32) (R : FVec Idealize.ShloMosaic.Ideal S1x8x64x128 .f32) (x : S1x1x128.Idx) : k0_pay50 (k0_pay48 Q R) x =
    ∑ s : Fin 128, (Q (ix2 ⟨1, by omega⟩ s) : EReal) * (R (ix4 0 ⟨2 + (x 2).val / 64, by have : (x 2).val < 128 := (x 2).isLt; omega⟩ ⟨(x 2).val % 64, by omega⟩ s) : EReal) := by
  pointwise [k0_pay50, k0_pay48]
  blk_point []
theorem row6 (Q : FVec Idealize.ShloMosaic.Ideal S4x128 .f32) (R : FVec Idealize.ShloMosaic.Ideal S1x8x64x128 .f32) (x : S1x1x128.Idx) : k0_pay51 (k0_pay48 Q R) x =
    ∑ s : Fin 128, (Q (ix2 ⟨1, by omega⟩ s) : EReal) * (R (ix4 0 ⟨4 + (x 2).val / 64, by have : (x 2).val < 128 := (x 2).isLt; omega⟩ ⟨(x 2).val % 64, by omega⟩ s) : EReal) := by
  pointwise [k0_pay51, k0_pay48]
  blk_point []
theorem row7 (Q : FVec Idealize.ShloMosaic.Ideal S4x128 .f32) (R : FVec Idealize.ShloMosaic.Ideal S1x8x64x128 .f32) (x : S1x1x128.Idx) : k0_pay52 (k0_pay48 Q R) x =
    ∑ s : Fin 128, (Q (ix2 ⟨1, by omega⟩ s) : EReal) * (R (ix4 0 ⟨6 + (x 2).val / 64, by have : (x 2).val < 128 := (x 2).isLt; omega⟩ ⟨(x 2).val % 64, by omega⟩ s) : EReal) := by
  pointwise [k0_pay52, k0_pay48]
  blk_point []
theorem row8 (Q : FVec Idealize.ShloMosaic.Ideal S4x128 .f32) (R : FVec Idealize.ShloMosaic.Ideal S1x8x64x128 .f32) (x : S1x1x128.Idx) : k0_pay67 Q R x =
    ∑ s : Fin 128, (Q (ix2 ⟨2, by omega⟩ s) : EReal) * (R (ix4 0 ⟨0 + (x 2).val / 64, by have : (x 2).val < 128 := (x 2).isLt; omega⟩ ⟨(x 2).val % 64, by omega⟩ s) : EReal) := by
  pointwise [k0_pay67, k0_pay66]
theorem row9 (Q : FVec Idealize.ShloMosaic.Ideal S4x128 .f32) (R : FVec Idealize.ShloMosaic.Ideal S1x8x64x128 .f32) (x : S1x1x128.Idx) : k0_pay68 Q R x =
    ∑ s : Fin 128, (Q (ix2 ⟨2, by omega⟩ s) : EReal) * (R (ix4 0 ⟨2 + (x 2).val / 64, by have : (x 2).val < 128 := (x 2).isLt; omega⟩ ⟨(x 2).val % 64, by omega⟩ s) : EReal) := by
  pointwise [k0_pay68, k0_pay66]
  blk_point []
theorem row10 (Q : FVec Idealize.ShloMosaic.Ideal S4x128 .f32) (R : FVec Idealize.ShloMosaic.Ideal S1x8x64x128 .f32) (x : S1x1x128.Idx) : k0_pay69 Q R x =
    ∑ s : Fin 128, (Q (ix2 ⟨2, by omega⟩ s) : EReal) * (R (ix4 0 ⟨4 + (x 2).val / 64, by have : (x 2).val < 128 := (x 2).isLt; omega⟩ ⟨(x 2).val % 64, by omega⟩ s) : EReal) := by
  pointwise [k0_pay69, k0_pay66]
  blk_point []
theorem row11 (Q : FVec Idealize.ShloMosaic.Ideal S4x128 .f32) (R : FVec Idealize.ShloMosaic.Ideal S1x8x64x128 .f32) (x : S1x1x128.Idx) : k0_pay70 Q R x =
    ∑ s : Fin 128, (Q (ix2 ⟨2, by omega⟩ s) : EReal) * (R (ix4 0 ⟨6 + (x 2).val / 64, by have : (x 2).val < 128 := (x 2).isLt; omega⟩ ⟨(x 2).val % 64, by omega⟩ s) : EReal) := by
  pointwise [k0_pay70, k0_pay66]
  blk_point []
theorem row12 (Q : FVec Idealize.ShloMosaic.Ideal S4x128 .f32) (R : FVec Idealize.ShloMosaic.Ideal S1x8x64x128 .f32) (x : S1x1x128.Idx) : k0_pay88 Q R x =
    ∑ s : Fin 128, (Q (ix2 ⟨3, by omega⟩ s) : EReal) * (R (ix4 0 ⟨0 + (x 2).val / 64, by have : (x 2).val < 128 := (x 2).isLt; omega⟩ ⟨(x 2).val % 64, by omega⟩ s) : EReal) := by
  pointwise [k0_pay88, k0_pay87]
theorem row13 (Q : FVec Idealize.ShloMosaic.Ideal S4x128 .f32) (R : FVec Idealize.ShloMosaic.Ideal S1x8x64x128 .f32) (x : S1x1x128.Idx) : k0_pay89 Q R x =
    ∑ s : Fin 128, (Q (ix2 ⟨3, by omega⟩ s) : EReal) * (R (ix4 0 ⟨2 + (x 2).val / 64, by have : (x 2).val < 128 := (x 2).isLt; omega⟩ ⟨(x 2).val % 64, by omega⟩ s) : EReal) := by
  pointwise [k0_pay89, k0_pay87]
  blk_point []
theorem row14 (Q : FVec Idealize.ShloMosaic.Ideal S4x128 .f32) (R : FVec Idealize.ShloMosaic.Ideal S1x8x64x128 .f32) (x : S1x1x128.Idx) : k0_pay90 Q R x =
    ∑ s : Fin 128, (Q (ix2 ⟨3, by omega⟩ s) : EReal) * (R (ix4 0 ⟨4 + (x 2).val / 64, by have : (x 2).val < 128 := (x 2).isLt; omega⟩ ⟨(x 2).val % 64, by omega⟩ s) : EReal) := by
  pointwise [k0_pay90, k0_pay87]
  blk_point []
theorem row15 (Q : FVec Idealize.ShloMosaic.Ideal S4x128 .f32) (R : FVec Idealize.ShloMosaic.Ideal S1x8x64x128 .f32) (x : S1x1x128.Idx) : k0_pay92 (k0_pay91 Q R) x =
    ∑ s : Fin 128, (Q (ix2 ⟨3, by omega⟩ s) : EReal) * (R (ix4 0 ⟨6 + (x 2).val / 64, by have : (x 2).val < 128 := (x 2).isLt; omega⟩ ⟨(x 2).val % 64, by omega⟩ s) : EReal) := by
  pointwise [k0_pay92, k0_pay91, k0_pay87]
  blk_point []

set_option maxHeartbeats 40000000 in
/-- The output rows a grid point leaves. -/
theorem after_11 (t : Fin cfg0.N) (y : S1x16x128.Idx) : (dats m 0 c).after 11 t y =
    normed (k0_pay93 (k0_pay10 (pre m c t)) (raw (cc m c t) (gg m c t) (dd m c t) (bb m c t) (olds m c t) (qq m c t)) (iblk m c 9 t) (iblk m c 0 t)) (iblk m c 10 t) y := by
  rw [after0_11]
  simp only [outsAt0]
  frame_open
  simp (disch := decide) only [View.read_writes_junk_eq_canon, View.canon_cons_unit_lit', View.ld_unit_lit',
    View.readCov_unit_lit', View.readCov_cons_unit_lit', View.readAt_eq_ld, Memref.IsWhole.read_unread]
  have e : (k0_pay5 (iblk m c 1 t) (View.ld (S := S1x3x24x128) (Val := Elt Idealize.ShloMosaic.Ideal) (iblk m c 2 t) (Rect.unit ![0, 0, 0, 0] ![1, 1, 24, 128] inb_S1x3x24x128_S1x1x24x128_0_0_0_0))
    (View.ld (S := S1x3x24x128) (Val := Elt Idealize.ShloMosaic.Ideal) (iblk m c 2 t) (Rect.unit ![0, 1, 0, 0] ![1, 1, 24, 128] inb_S1x3x24x128_S1x1x24x128_0_1_0_0))
    (View.ld (S := S1x3x24x128) (Val := Elt Idealize.ShloMosaic.Ideal) (iblk m c 2 t) (Rect.unit ![0, 2, 0, 0] ![1, 1, 24, 128] inb_S1x3x24x128_S1x1x24x128_0_2_0_0)) (iblk m c 6 t)
    (View.ld (S := S4x24x128) (Val := Elt Idealize.ShloMosaic.Ideal) (iblk m c 5 t) (Rect.unit ![0, 0, 0] ![1, 24, 128] inb_S4x24x128_S1x24x128_0_0_0))
    (View.ld (S := S4x24x128) (Val := Elt Idealize.ShloMosaic.Ideal) (iblk m c 5 t) (Rect.unit ![1, 0, 0] ![1, 24, 128] inb_S4x24x128_S1x24x128_1_0_0))
    (View.ld (S := S4x24x128) (Val := Elt Idealize.ShloMosaic.Ideal) (iblk m c 5 t) (Rect.unit ![2, 0, 0] ![1, 24, 128] inb_S4x24x128_S1x24x128_2_0_0))
    (View.ld (S := S4x24x128) (Val := Elt Idealize.ShloMosaic.Ideal) (iblk m c 5 t) (Rect.unit ![3, 0, 0] ![1, 24, 128] inb_S4x24x128_S1x24x128_3_0_0))) = pre m c t := rfl
  rw [e]
  have e2 : k0_pay13 (iblk m c 3 t) (iblk m c 7 t) = dd m c t := rfl
  have e3 : k0_pay14 (iblk m c 3 t) (iblk m c 7 t) (iblk m c 8 t) = gg m c t := rfl
  have e5 : iblk m c 4 t = olds m c t := rfl
  have e4 : k0_pay16 (k0_pay10 (pre m c t)) k0_pay15 = cc m c t := rfl
  have e6 : k0_pay11 (pre m c t) = bb m c t := rfl
  simp only [k0_pay17, k0_pay18, k0_pay19]
  have e7 : k0_pay12 (pre m c t) = qq m c t := rfl
  rw [e4, e2, e3, e5, e6, e7]
  clear e e2 e3 e4 e5 e6 e7
  generalize cc m c t = C
  generalize bb m c t = B
  generalize dd m c t = D
  generalize gg m c t = G
  generalize olds m c t = S
  generalize qq m c t = Q
  generalize k0_pay10 (pre m c t) = X
  generalize iblk m c 10 t = N
  rw [box_of _ C G D B S 0 0 rfl]
  rw [box_of _ C G D B S 1 8 rfl]
  rw [box_of _ C G D B S 2 16 rfl]
  rw [box_of _ C G D B S 3 24 rfl]
  rw [whole_of _ (raw C G D B S Q)]
  · simp only [k0_pay94, k0_pay95, k0_pay96]
    generalize k0_pay93 X (raw C G D B S Q) (iblk m c 9 t) (iblk m c 0 t) = P
    refine (canon_front [_, _, _, _] _ y (View.cover_of_tiled_head _ _ _ (by rfl) _)).trans ?_
    unfold normed
    canon_tiles x h
    all_goals
      pointwise [k0_pay1, k0_pay97, k0_pay98, k0_pay99, k0_pay100, k0_pay101]
      blk_point []
  · intro y
    canon_tiles x h
    · have x2 : (x 2).val < 128 := (x 2).isLt
      have hy : (y 1).val = 15 := by omega
      have h2 : (y 2).val = (x 2).val := by omega
      refine (row15 _ _ x).trans (Finset.sum_congr rfl fun s _ => ?_)
      refine congrArg₂ (· * ·) (congrArg Q (congrArg₂ ix2 (Fin.ext ?_) rfl)) (upd_congr C G D B S s ?_ ?_)
      · show 3 = (y 1).val / 4
        omega
      · show 24 + (6 + (x 2).val / 64) = 2 * (y 1).val + (y 2).val / 64
        omega
      · show (x 2).val % 64 = (y 2).val % 64
        omega
    · have x2 : (x 2).val < 128 := (x 2).isLt
      have hy : (y 1).val = 14 := by omega
      have h2 : (y 2).val = (x 2).val := by omega
      refine (row14 _ _ x).trans (Finset.sum_congr rfl fun s _ => ?_)
      refine congrArg₂ (· * ·) (congrArg Q (congrArg₂ ix2 (Fin.ext ?_) rfl)) (upd_congr C G D B S s ?_ ?_)
      · show 3 = (y 1).val / 4
        omega
      · show 24 + (4 + (x 2).val / 64) = 2 * (y 1).val + (y 2).val / 64
        omega
      · show (x 2).val % 64 = (y 2).val % 64
        omega
    · have x2 : (x 2).val < 128 := (x 2).isLt
      have hy : (y 1).val = 13 := by omega
      have h2 : (y 2).val = (x 2).val := by omega
      refine (row13 _ _ x).trans (Finset.sum_congr rfl fun s _ => ?_)
      refine congrArg₂ (· * ·) (congrArg Q (congrArg₂ ix2 (Fin.ext ?_) rfl)) (upd_congr C G D B S s ?_ ?_)
      · show 3 = (y 1).val / 4
        omega
      · show 24 + (2 + (x 2).val / 64) = 2 * (y 1).val + (y 2).val / 64
        omega
      · show (x 2).val % 64 = (y 2).val % 64
        omega
    · have x2 : (x 2).val < 128 := (x 2).isLt
      have hy : (y 1).val = 12 := by omega
      have h2 : (y 2).val = (x 2).val := by omega
      refine (row12 _ _ x).trans (Finset.sum_congr rfl fun s _ => ?_)
      refine congrArg₂ (· * ·) (congrArg Q (congrArg₂ ix2 (Fin.ext ?_) rfl)) (upd_congr C G D B S s ?_ ?_)
      · show 3 = (y 1).val / 4
        omega
      · show 24 + (0 + (x 2).val / 64) = 2 * (y 1).val + (y 2).val / 64
        omega
      · show (x 2).val % 64 = (y 2).val % 64
        omega
    · have x2 : (x 2).val < 128 := (x 2).isLt
      have hy : (y 1).val = 11 := by omega
      have h2 : (y 2).val = (x 2).val := by omega
      refine (row11 _ _ x).trans (Finset.sum_congr rfl fun s _ => ?_)
      refine congrArg₂ (· * ·) (congrArg Q (congrArg₂ ix2 (Fin.ext ?_) rfl)) (upd_congr C G D B S s ?_ ?_)
      · show 2 = (y 1).val / 4
        omega
      · show 16 + (6 + (x 2).val / 64) = 2 * (y 1).val + (y 2).val / 64
        omega
      · show (x 2).val % 64 = (y 2).val % 64
        omega
    · have x2 : (x 2).val < 128 := (x 2).isLt
      have hy : (y 1).val = 10 := by omega
      have h2 : (y 2).val = (x 2).val := by omega
      refine (row10 _ _ x).trans (Finset.sum_congr rfl fun s _ => ?_)
      refine congrArg₂ (· * ·) (congrArg Q (congrArg₂ ix2 (Fin.ext ?_) rfl)) (upd_congr C G D B S s ?_ ?_)
      · show 2 = (y 1).val / 4
        omega
      · show 16 + (4 + (x 2).val / 64) = 2 * (y 1).val + (y 2).val / 64
        omega
      · show (x 2).val % 64 = (y 2).val % 64
        omega
    · have x2 : (x 2).val < 128 := (x 2).isLt
      have hy : (y 1).val = 9 := by omega
      have h2 : (y 2).val = (x 2).val := by omega
      refine (row9 _ _ x).trans (Finset.sum_congr rfl fun s _ => ?_)
      refine congrArg₂ (· * ·) (congrArg Q (congrArg₂ ix2 (Fin.ext ?_) rfl)) (upd_congr C G D B S s ?_ ?_)
      · show 2 = (y 1).val / 4
        omega
      · show 16 + (2 + (x 2).val / 64) = 2 * (y 1).val + (y 2).val / 64
        omega
      · show (x 2).val % 64 = (y 2).val % 64
        omega
    · have x2 : (x 2).val < 128 := (x 2).isLt
      have hy : (y 1).val = 8 := by omega
      have h2 : (y 2).val = (x 2).val := by omega
      refine (row8 _ _ x).trans (Finset.sum_congr rfl fun s _ => ?_)
      refine congrArg₂ (· * ·) (congrArg Q (congrArg₂ ix2 (Fin.ext ?_) rfl)) (upd_congr C G D B S s ?_ ?_)
      · show 2 = (y 1).val / 4
        omega
      · show 16 + (0 + (x 2).val / 64) = 2 * (y 1).val + (y 2).val / 64
        omega
      · show (x 2).val % 64 = (y 2).val % 64
        omega
    · have x2 : (x 2).val < 128 := (x 2).isLt
      have hy : (y 1).val = 7 := by omega
      have h2 : (y 2).val = (x 2).val := by omega
      refine (row7 _ _ x).trans (Finset.sum_congr rfl fun s _ => ?_)
      refine congrArg₂ (· * ·) (congrArg Q (congrArg₂ ix2 (Fin.ext ?_) rfl)) (upd_congr C G D B S s ?_ ?_)
      · show 1 = (y 1).val / 4
        omega
      · show 8 + (6 + (x 2).val / 64) = 2 * (y 1).val + (y 2).val / 64
        omega
      · show (x 2).val % 64 = (y 2).val % 64
        omega
    · have x2 : (x 2).val < 128 := (x 2).isLt
      have hy : (y 1).val = 6 := by omega
      have h2 : (y 2).val = (x 2).val := by omega
      refine (row6 _ _ x).trans (Finset.sum_congr rfl fun s _ => ?_)
      refine congrArg₂ (· * ·) (congrArg Q (congrArg₂ ix2 (Fin.ext ?_) rfl)) (upd_congr C G D B S s ?_ ?_)
      · show 1 = (y 1).val / 4
        omega
      · show 8 + (4 + (x 2).val / 64) = 2 * (y 1).val + (y 2).val / 64
        omega
      · show (x 2).val % 64 = (y 2).val % 64
        omega
    · have x2 : (x 2).val < 128 := (x 2).isLt
      have hy : (y 1).val = 5 := by omega
      have h2 : (y 2).val = (x 2).val := by omega
      refine (row5 _ _ x).trans (Finset.sum_congr rfl fun s _ => ?_)
      refine congrArg₂ (· * ·) (congrArg Q (congrArg₂ ix2 (Fin.ext ?_) rfl)) (upd_congr C G D B S s ?_ ?_)
      · show 1 = (y 1).val / 4
        omega
      · show 8 + (2 + (x 2).val / 64) = 2 * (y 1).val + (y 2).val / 64
        omega
      · show (x 2).val % 64 = (y 2).val % 64
        omega
    · have x2 : (x 2).val < 128 := (x 2).isLt
      have hy : (y 1).val = 4 := by omega
      have h2 : (y 2).val = (x 2).val := by omega
      refine (row4 _ _ x).trans (Finset.sum_congr rfl fun s _ => ?_)
      refine congrArg₂ (· * ·) (congrArg Q (congrArg₂ ix2 (Fin.ext ?_) rfl)) (upd_congr C G D B S s ?_ ?_)
      · show 1 = (y 1).val / 4
        omega
      · show 8 + (0 + (x 2).val / 64) = 2 * (y 1).val + (y 2).val / 64
        omega
      · show (x 2).val % 64 = (y 2).val % 64
        omega
    · have x2 : (x 2).val < 128 := (x 2).isLt
      have hy : (y 1).val = 3 := by omega
      have h2 : (y 2).val = (x 2).val := by omega
      refine (row3 _ _ x).trans (Finset.sum_congr rfl fun s _ => ?_)
      refine congrArg₂ (· * ·) (congrArg Q (congrArg₂ ix2 (Fin.ext ?_) rfl)) (upd_congr C G D B S s ?_ ?_)
      · show 0 = (y 1).val / 4
        omega
      · show 0 + (6 + (x 2).val / 64) = 2 * (y 1).val + (y 2).val / 64
        omega
      · show (x 2).val % 64 = (y 2).val % 64
        omega
    · have x2 : (x 2).val < 128 := (x 2).isLt
      have hy : (y 1).val = 2 := by omega
      have h2 : (y 2).val = (x 2).val := by omega
      refine (row2 _ _ x).trans (Finset.sum_congr rfl fun s _ => ?_)
      refine congrArg₂ (· * ·) (congrArg Q (congrArg₂ ix2 (Fin.ext ?_) rfl)) (upd_congr C G D B S s ?_ ?_)
      · show 0 = (y 1).val / 4
        omega
      · show 0 + (4 + (x 2).val / 64) = 2 * (y 1).val + (y 2).val / 64
        omega
      · show (x 2).val % 64 = (y 2).val % 64
        omega
    · have x2 : (x 2).val < 128 := (x 2).isLt
      have hy : (y 1).val = 1 := by omega
      have h2 : (y 2).val = (x 2).val := by omega
      refine (row1 _ _ x).trans (Finset.sum_congr rfl fun s _ => ?_)
      refine congrArg₂ (· * ·) (congrArg Q (congrArg₂ ix2 (Fin.ext ?_) rfl)) (upd_congr C G D B S s ?_ ?_)
      · show 0 = (y 1).val / 4
        omega
      · show 0 + (2 + (x 2).val / 64) = 2 * (y 1).val + (y 2).val / 64
        omega
      · show (x 2).val % 64 = (y 2).val % 64
        omega
    · have x2 : (x 2).val < 128 := (x 2).isLt
      have hy : (y 1).val = 0 := by omega
      have h2 : (y 2).val = (x 2).val := by omega
      refine (row0 _ _ x).trans (Finset.sum_congr rfl fun s _ => ?_)
      refine congrArg₂ (· * ·) (congrArg Q (congrArg₂ ix2 (Fin.ext ?_) rfl)) (upd_congr C G D B S s ?_ ?_)
      · show 0 = (y 1).val / 4
        omega
      · show 0 + (0 + (x 2).val / 64) = 2 * (y 1).val + (y 2).val / 64
        omega
      · show (x 2).val % 64 = (y 2).val % 64
        omega
  · intro y h1 h2
    have y0 : (y 0).val < 1 := (y 0).isLt
    have y2 : (y 2).val < 64 := (y 2).isLt
    have y3 : (y 3).val < 128 := (y 3).isLt
    unfold upd
    canon_tiles x h using (by
      rcases (by omega : (y 1).val = 24 ∨ (y 1).val = 25 ∨ (y 1).val = 26 ∨ (y 1).val = 27 ∨ (y 1).val = 28 ∨ (y 1).val = 29 ∨ (y 1).val = 30 ∨ (y 1).val = 31) with q | q | q | q | q | q | q | q
      · refine ⟨_, .tail _ (.tail _ (.tail _ (.tail _ (.tail _ (.tail _ (.tail _ (.head _))))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.tail _ (.tail _ (.head _)))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.tail _ (.head _))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.head _)))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.head _))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.head _)), ?_⟩
        first | rw [Rect.mem_set_unit] | (dsimp only; rw [Rect.mem_set_unit]) | apply (Rect.mem_set_unit (inb := by decide)).mpr
        intro a
        fin_cases a <;> simp <;> omega
      · refine ⟨_, .tail _ (.head _), ?_⟩
        first | rw [Rect.mem_set_unit] | (dsimp only; rw [Rect.mem_set_unit]) | apply (Rect.mem_set_unit (inb := by decide)).mpr
        intro a
        fin_cases a <;> simp <;> omega
      · refine ⟨_, .head _, ?_⟩
        first | rw [Rect.mem_set_unit] | (dsimp only; rw [Rect.mem_set_unit]) | apply (Rect.mem_set_unit (inb := by decide)).mpr
        intro a
        fin_cases a <;> simp <;> omega)
    all_goals
      pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
      blk_point []
  · intro y h1 h2
    have y0 : (y 0).val < 1 := (y 0).isLt
    have y2 : (y 2).val < 64 := (y 2).isLt
    have y3 : (y 3).val < 128 := (y 3).isLt
    unfold upd
    canon_tiles x h using (by
      rcases (by omega : (y 1).val = 16 ∨ (y 1).val = 17 ∨ (y 1).val = 18 ∨ (y 1).val = 19 ∨ (y 1).val = 20 ∨ (y 1).val = 21 ∨ (y 1).val = 22 ∨ (y 1).val = 23) with q | q | q | q | q | q | q | q
      · refine ⟨_, .tail _ (.tail _ (.tail _ (.tail _ (.tail _ (.tail _ (.tail _ (.head _))))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.tail _ (.tail _ (.head _)))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.tail _ (.head _))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.head _)))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.head _))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.head _)), ?_⟩
        first | rw [Rect.mem_set_unit] | (dsimp only; rw [Rect.mem_set_unit]) | apply (Rect.mem_set_unit (inb := by decide)).mpr
        intro a
        fin_cases a <;> simp <;> omega
      · refine ⟨_, .tail _ (.head _), ?_⟩
        first | rw [Rect.mem_set_unit] | (dsimp only; rw [Rect.mem_set_unit]) | apply (Rect.mem_set_unit (inb := by decide)).mpr
        intro a
        fin_cases a <;> simp <;> omega
      · refine ⟨_, .head _, ?_⟩
        first | rw [Rect.mem_set_unit] | (dsimp only; rw [Rect.mem_set_unit]) | apply (Rect.mem_set_unit (inb := by decide)).mpr
        intro a
        fin_cases a <;> simp <;> omega)
    all_goals
      pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
      blk_point []
  · intro y h1 h2
    have y0 : (y 0).val < 1 := (y 0).isLt
    have y2 : (y 2).val < 64 := (y 2).isLt
    have y3 : (y 3).val < 128 := (y 3).isLt
    unfold upd
    canon_tiles x h using (by
      rcases (by omega : (y 1).val = 8 ∨ (y 1).val = 9 ∨ (y 1).val = 10 ∨ (y 1).val = 11 ∨ (y 1).val = 12 ∨ (y 1).val = 13 ∨ (y 1).val = 14 ∨ (y 1).val = 15) with q | q | q | q | q | q | q | q
      · refine ⟨_, .tail _ (.tail _ (.tail _ (.tail _ (.tail _ (.tail _ (.tail _ (.head _))))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.tail _ (.tail _ (.head _)))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.tail _ (.head _))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.head _)))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.head _))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.head _)), ?_⟩
        first | rw [Rect.mem_set_unit] | (dsimp only; rw [Rect.mem_set_unit]) | apply (Rect.mem_set_unit (inb := by decide)).mpr
        intro a
        fin_cases a <;> simp <;> omega
      · refine ⟨_, .tail _ (.head _), ?_⟩
        first | rw [Rect.mem_set_unit] | (dsimp only; rw [Rect.mem_set_unit]) | apply (Rect.mem_set_unit (inb := by decide)).mpr
        intro a
        fin_cases a <;> simp <;> omega
      · refine ⟨_, .head _, ?_⟩
        first | rw [Rect.mem_set_unit] | (dsimp only; rw [Rect.mem_set_unit]) | apply (Rect.mem_set_unit (inb := by decide)).mpr
        intro a
        fin_cases a <;> simp <;> omega)
    all_goals
      pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
      blk_point []
  · intro y h1 h2
    have y0 : (y 0).val < 1 := (y 0).isLt
    have y2 : (y 2).val < 64 := (y 2).isLt
    have y3 : (y 3).val < 128 := (y 3).isLt
    unfold upd
    canon_tiles x h using (by
      rcases (by omega : (y 1).val = 0 ∨ (y 1).val = 1 ∨ (y 1).val = 2 ∨ (y 1).val = 3 ∨ (y 1).val = 4 ∨ (y 1).val = 5 ∨ (y 1).val = 6 ∨ (y 1).val = 7) with q | q | q | q | q | q | q | q
      · refine ⟨_, .tail _ (.tail _ (.tail _ (.tail _ (.tail _ (.tail _ (.tail _ (.head _))))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.tail _ (.tail _ (.head _)))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.tail _ (.head _))))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.tail _ (.head _)))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.tail _ (.head _))), ?_⟩
        first | rw [Rect.mem_set_unit] | (dsimp only; rw [Rect.mem_set_unit]) | apply (Rect.mem_set_unit (inb := by decide)).mpr
        intro a
        fin_cases a <;> simp <;> omega
      · refine ⟨_, .tail _ (.tail _ (.head _)), ?_⟩
        first | rw [Rect.mem_set_unit] | (dsimp only; rw [Rect.mem_set_unit]) | apply (Rect.mem_set_unit (inb := by decide)).mpr
        intro a
        fin_cases a <;> simp <;> omega
      · refine ⟨_, .tail _ (.head _), ?_⟩
        first | rw [Rect.mem_set_unit] | (dsimp only; rw [Rect.mem_set_unit]) | apply (Rect.mem_set_unit (inb := by decide)).mpr
        intro a
        fin_cases a <;> simp <;> omega
      · refine ⟨_, .head _, ?_⟩
        first | rw [Rect.mem_set_unit] | (dsimp only; rw [Rect.mem_set_unit]) | apply (Rect.mem_set_unit (inb := by decide)).mpr
        intro a
        fin_cases a <;> simp <;> omega)
    all_goals
      pointwise [k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92]
      blk_point []

/-- A sum over four rows of 128 columns is a sum over 512 columns. -/
theorem sum_512 (f : Fin 512 → EReal) : ∑ a : Fin 4, ∑ l : Fin 128, f ⟨a.val * 128 + l.val, by omega⟩ = ∑ j : Fin 512, f j := by
  rw [← Fintype.sum_prod_type' (f := fun (a : Fin 4) (l : Fin 128) => f ⟨a.val * 128 + l.val, by omega⟩)]
  refine Fintype.sum_equiv (finProdFinEquiv : Fin 4 × Fin 128 ≃ Fin 512) _ _ fun x => congrArg f (Fin.ext ?_)
  show x.1.val * 128 + x.2.val = x.2.val + 128 * x.1.val
  omega

/-- The rows before the norm, entry by entry. -/
theorem gated (X : FVec Idealize.ShloMosaic.Ideal S16x128 .f32) (Y : Vec Idealize.ShloMosaic.Ideal S1x16x128 .f32) (a : Vec Idealize.ShloMosaic.Ideal S16x128 .f32) (z : Vec Idealize.ShloMosaic.Ideal S1x16x128 .f32) (r : Fin 16) (l : Fin 128) :
    k0_pay93 X Y a z (ix2 r l) = ((Y (ix3 0 r l) : EReal) + (a (ix2 r l) : EReal) * (X (ix2 r l) : EReal)) * ((z (ix3 0 r l) : EReal) * Ideal.logistic (z (ix3 0 r l))) := by
  pointwise [k0_pay93]

/-- The output before the norm: the state read in the output direction, the skip, the gate. -/
def att (t : Fin 128) (n : Fin 2048) : EReal :=
  ((∑ s : Fin 128, sl m c t ⟨2560 + (n.val / 512 * 128 + s.val), by omega⟩ * st m c t ⟨n.val / 64, by omega⟩ ⟨n.val % 64, by omega⟩ s) + ad m c (ix2 0 ⟨n.val / 64, by omega⟩) * sl m c t ⟨n.val, by omega⟩) *
    (az m c (ix2 t n) * Ideal.logistic (az m c (ix2 t n)))

/-- The output of a sample: each group of 512 columns normed, times its gain. -/
def out (t : Fin 128) (n : Fin 2048) : EReal :=
  att m c t n * Ideal.rsqrt ((∑ j : Fin 512, att m c t ⟨n.val / 512 * 512 + j.val, by omega⟩ * att m c t ⟨n.val / 512 * 512 + j.val, by omega⟩) * Ideal.ofBits FTy.f32 0x3B000000#32 + Ideal.ofBits FTy.f32 0x358637BD#32) * an m c (ix2 0 n)

/-- All samples' outputs. -/
def outA : S128x16x128.Idx → EReal := fun i => out m c (i 0) ⟨(i 1).val * 128 + (i 2).val, by have : (i 1).val < 16 := (i 1).isLt; have : (i 2).val < 128 := (i 2).isLt; omega⟩

/-- A grid point's rows before the norm. -/
def rows (t : Fin cfg0.N) : FVec Idealize.ShloMosaic.Ideal S16x128 .f32 :=
  k0_pay93 (k0_pay10 (pre m c t)) (raw (cc m c t) (gg m c t) (dd m c t) (bb m c t) (olds m c t) (qq m c t)) (iblk m c 9 t) (iblk m c 0 t)

theorem st_congr (t : Fin 128) {h h' : Fin 32} {p p' : Fin 64} (n : Fin 128) (a : h.val = h'.val) (b : p.val = p'.val) : st m c t h p n = st m c t h' p' n := by
  obtain rfl : h = h' := Fin.ext a
  obtain rfl : p = p' := Fin.ext b
  rfl

theorem rows_at (t : Fin cfg0.N) (r : Fin 16) (l : Fin 128) : rows m c t (ix2 r l) = att m c ⟨t.val, t.isLt⟩ ⟨r.val * 128 + l.val, by omega⟩ := by
  refine (gated _ _ _ _ r l).trans ?_
  unfold att
  refine congrArg₂ (· * ·) (congrArg₂ (· + ·) (Finset.sum_congr rfl fun s _ => congrArg₂ (· * ·) ?_ ?_) (congrArg₂ (· * ·) (dsk_at m c t r l) (x_row m c t r l)))
    (congrArg₂ (· * ·) (z_at m c t r l) (congrArg Ideal.logistic (z_at m c t r l)))
  · refine (C_at m c t ⟨r.val / 4, by omega⟩ s).trans (congrArg (sl m c _) (Fin.ext ?_))
    show 2560 + (r.val / 4 * 128 + s.val) = 2560 + ((r.val * 128 + l.val) / 512 * 128 + s.val)
    omega
  · refine (state_at m c t ⟨2 * r.val + l.val / 64, by omega⟩ ⟨l.val % 64, by omega⟩ s).trans (st_congr m c _ s ?_ ?_)
    · show 2 * r.val + l.val / 64 = (r.val * 128 + l.val) / 64
      omega
    · show l.val % 64 = (r.val * 128 + l.val) % 64
      omega

theorem out_at (t : Fin cfg0.N) (r : Fin 16) (l : Fin 128) : normed (rows m c t) (iblk m c 10 t) (ix3 0 r l) = out m c ⟨t.val, t.isLt⟩ ⟨r.val * 128 + l.val, by omega⟩ := by
  have e : ∀ (a : Fin 4) (k : Fin 128), rows m c t (ix2 ⟨r.val / 4 * 4 + a.val, by omega⟩ k) = att m c ⟨t.val, t.isLt⟩ ⟨(r.val * 128 + l.val) / 512 * 512 + (a.val * 128 + k.val), by omega⟩ := by
    intro a k
    refine (rows_at m c t _ k).trans (congrArg (att m c _) (Fin.ext ?_))
    show (r.val / 4 * 4 + a.val) * 128 + k.val = (r.val * 128 + l.val) / 512 * 512 + (a.val * 128 + k.val)
    omega
  unfold out
  refine congrArg₂ (· * ·) (congrArg₂ (· * ·) (rows_at m c t r l) (congrArg (fun s => Ideal.rsqrt (s * _ + _)) ?_)) (gain_at m c t r l)
  refine Eq.trans ?_ (sum_512 fun j => att m c ⟨t.val, t.isLt⟩ ⟨(r.val * 128 + l.val) / 512 * 512 + j.val, by omega⟩ * att m c ⟨t.val, t.isLt⟩ ⟨(r.val * 128 + l.val) / 512 * 512 + j.val, by omega⟩)
  exact Finset.sum_congr rfl fun a _ => Finset.sum_congr rfl fun k _ => congrArg₂ (· * ·) (e a k) (e a k)

theorem row_form (y : S1x16x128.Idx) : y = ix3 0 (y 1) (y 2) := by
  funext a
  match a with
  | ⟨0, _⟩ => exact Subsingleton.elim (α := Fin 1) _ _
  | ⟨1, _⟩ => rfl
  | ⟨2, _⟩ => rfl

set_option maxHeartbeats 3200000 in
/-- All samples' outputs, as the launch leaves them. -/
theorem outs : (dats m 0 c).arrAt 11 (cfgs 0).N = outA m c := by
  refine (dats m 0 c).arrAt_eq_of_covers 11 _ (by decide +kernel) fun t hf y => ?_
  blk_simp
  rw [after_11]
  refine (congrArg (normed (rows m c t) (iblk m c 10 t)) (row_form y)).trans ?_
  refine (out_at m c t (y 1) (y 2)).trans ?_
  refine (show _ = outA m c (ix3 ⟨t.val, t.isLt⟩ (y 1) (y 2)) from rfl).trans ?_
  blk_ext [idx t]

/-- The outputs leave the launch as one row per sample. -/
theorem tail_out : Pipeline.afterTail₀ cfgs (dats m) 0 (V0 m) [hostOps1] c main_v29 =
    fun i => shapeCast S128x2048 ((dats m 0 c).arrAt 11 (cfgs 0).N) shapeCasts_S128x16x128_S128x2048 i := by
  unfold Pipeline.afterTail₀
  have h := Pipeline.withArrays_arr (cfgs 0).spec winFacts0.arr_inj c (V0 m c) (fun w => (dats m 0 c).arrAt w (cfgs 0).N) 11
  rw [← h]
  generalize Pipeline.withArrays (cfgs 0).spec c (V0 m c) (fun w => (dats m 0 c).arrAt w (cfgs 0).N) = σ
  simp only [hostOps1, List.flatten_cons, List.flatten_nil, List.append_nil]
  after_results
  rfl

set_option maxHeartbeats 40000000 in
theorem algebraic : Cert.algebraic_Kernel7Ideal_Reference7Ideal := by
  pair_intro
  · run_from Cert.Kernel7Ideal.Gen.run_main m g
    all_goals first | exact W_main_arg0 m (dats m) c | exact W_main_arg1 m (dats m) c | exact W_main_arg2 m (dats m) c | exact W_main_arg3 m (dats m) c | exact W_main_arg4 m (dats m) c | exact W_main_arg5 m (dats m) c | exact W_main_arg6 m (dats m) c | exact W_main_arg7 m (dats m) c | exact W_main_arg8 m (dats m) c | exact W_main_arg9 m (dats m) c | exact W_main_arg10 m (dats m) c
  · hlo_run
    · rw [tail_out, outs]
      funext i
      simp only [StableHlo.TRef.toBuf, StableHlo.TRef.ofBuf, cast_eq]
      have a1 := (hagree c).2.1
      have a2 := (hagree c).2.2.1
      first | rw [a1, a2] | rw [a2, a1] | simp only [a1, a2] | skip
      pointwise [outA, out, att, st, dA, dT, sl, pr, soft]
      simp only [div_512, Ideal.logistic, ne_eq, not_true, if_false, az, ax, ac, adt, aS, aw, ab, adb, al, ad, an]
      blk_point []
      all_goals first | (refine (congrFun a1 _).trans ?_; blk_ext []) | (refine (congrFun a2 _).trans ?_; blk_ext []) | (refine Eq.trans ?_ (congrFun a1 _).symm; blk_ext []) | (refine Eq.trans ?_ (congrFun a2 _).symm; blk_ext [])
    · rw [tail_conv, convs]
      funext i
      simp only [StableHlo.TRef.toBuf, StableHlo.TRef.ofBuf, cast_eq]
      have a1 := (hagree c).2.1
      have a2 := (hagree c).2.2.1
      first | rw [a1, a2] | rw [a2, a1] | simp only [a1, a2] | skip
      pointwise [ncsA, ncs]
      simp only [ax, ac]
      by_cases q : (i 1).val < 2
      · rw [dif_pos (by omega), dif_pos q]
        first | blk_ext [] | (refine Eq.trans ?_ (congrFun a1 _).symm; blk_ext []) | (refine Eq.trans ?_ (congrFun a2 _).symm; blk_ext []) | (refine (congrFun a1 _).trans ?_; blk_ext []) | (refine (congrFun a2 _).trans ?_; blk_ext [])
      · rw [dif_neg (by omega), dif_neg q]
        first | blk_ext [] | (refine Eq.trans ?_ (congrFun a1 _).symm; blk_ext []) | (refine Eq.trans ?_ (congrFun a2 _).symm; blk_ext []) | (refine (congrFun a1 _).trans ?_; blk_ext []) | (refine (congrFun a2 _).trans ?_; blk_ext [])
    · symm
      refine (dats m 0 c).arrAt_eq_of_covers 13 _ (by decide +kernel) fun t hf y => ?_
      simp only [StableHlo.TRef.toBuf, StableHlo.TRef.ofBuf, cast_eq]
      have a1 := (hagree c).2.1
      have a2 := (hagree c).2.2.1
      first | rw [a1, a2] | rw [a2, a1] | simp only [a1, a2] | skip
      blk_simp
      rw [after_13]
      refine (state_at m c t (y 1) (y 2) (y 3)).trans ?_
      pointwise [st, dA, dT, sl, pr, soft]
      simp only [Ideal.logistic, ne_eq, not_true, if_false, az, ax, ac, adt, aS, aw, ab, adb, al, ad, an]
      blk_point [idx t]
      all_goals first | (refine Eq.trans ?_ (congrFun a1 _).symm; blk_ext [idx t]) | (refine Eq.trans ?_ (congrFun a2 _).symm; blk_ext [idx t])

end Cert.SsdStep
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.OutProj
public import proofs.«01_k».proof.Proof.EvenProj
public import proofs.«01_k».proof.Proof.OddProj
public import proofs.«01_k».proof.Proof.GlaStep
public import proofs.«01_k».proof.Proof.GdnStep
public import proofs.«01_k».proof.Proof.SsdStep
public import Idealize.ShloMosaic.Lib.Claim
public import Idealize.ShloMosaic.Adequacy
public import Idealize.ShloMosaic.Init

@[expose] public section

noncomputable section

namespace Cert.Proof

open Idealize.ShloMosaic Idealize.SL.Sem

/-- The reference of call 1 runs to the end and leaves its arguments and every counter as they were. -/
theorem reference1 : Cert.quiescent_ReferenceIdeal := by
  intro m ρ _
  hlo_run
  · exact fun _ => ⟨trivial, trivial, trivial⟩
  · exact sem_eq_zero_of_no_sems (sig := Cert.ReferenceIdeal.sig) (by decide) _

/-- The reference of call 2 runs to the end and leaves its arguments and every counter as they were. -/
theorem reference2 : Cert.quiescent_Reference2Ideal := by
  intro m ρ _
  hlo_run
  · exact fun _ => ⟨trivial, trivial, trivial⟩
  · exact sem_eq_zero_of_no_sems (sig := Cert.Reference2Ideal.sig) (by decide) _

/-- The reference of call 3 runs to the end and leaves its arguments and every counter as they were. -/
theorem reference3 : Cert.quiescent_Reference3Ideal := by
  intro m ρ _
  hlo_run
  · exact fun _ => ⟨trivial, trivial, trivial, trivial, trivial⟩
  · exact sem_eq_zero_of_no_sems (sig := Cert.Reference3Ideal.sig) (by decide) _

/-- The reference of call 4 runs to the end and leaves its arguments and every counter as they were. -/
theorem reference4 : Cert.quiescent_Reference4Ideal := by
  intro m ρ _
  hlo_run
  · exact fun _ => ⟨trivial, trivial, trivial, trivial⟩
  · exact sem_eq_zero_of_no_sems (sig := Cert.Reference4Ideal.sig) (by decide) _

/-- The reference of call 5 runs to the end and leaves its arguments and every counter as they were. -/
theorem reference5 : Cert.quiescent_Reference5Ideal := by
  intro m ρ _
  hlo_run
  · exact fun _ => ⟨trivial, trivial, trivial, trivial, trivial, trivial, trivial, trivial, trivial⟩
  · exact sem_eq_zero_of_no_sems (sig := Cert.Reference5Ideal.sig) (by decide) _

/-- The reference of call 6 runs to the end and leaves its arguments and every counter as they were. -/
theorem reference6 : Cert.quiescent_Reference6Ideal := by
  intro m ρ _
  hlo_run
  · exact fun _ => ⟨trivial, trivial, trivial, trivial, trivial, trivial, trivial, trivial, trivial, trivial⟩
  · exact sem_eq_zero_of_no_sems (sig := Cert.Reference6Ideal.sig) (by decide) _

/-- The reference of call 7 runs to the end and leaves its arguments and every counter as they were. -/
theorem reference7 : Cert.quiescent_Reference7Ideal := by
  intro m ρ _
  hlo_run
  · exact fun _ => ⟨trivial, trivial, trivial, trivial, trivial, trivial, trivial, trivial, trivial, trivial, trivial⟩
  · exact sem_eq_zero_of_no_sems (sig := Cert.Reference7Ideal.sig) (by decide) _

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  fun m ρ _ => Cert.Kernel.Gen.frame m ρ, fun m ρ _ => Cert.KernelIdeal.Gen.frame m ρ,
  reference1,
  fun m ρ _ => Cert.Kernel2.Gen.frame m ρ, fun m ρ _ => Cert.Kernel2Ideal.Gen.frame m ρ,
  reference2,
  fun m ρ _ => Cert.Kernel3.Gen.frame m ρ, fun m ρ _ => Cert.Kernel3Ideal.Gen.frame m ρ,
  reference3,
  fun m ρ _ => Cert.Kernel4.Gen.frame m ρ, fun m ρ _ => Cert.Kernel4Ideal.Gen.frame m ρ,
  reference4,
  fun m ρ _ => Cert.Kernel5.Gen.frame m ρ, fun m ρ _ => Cert.Kernel5Ideal.Gen.frame m ρ,
  reference5,
  fun m ρ _ => Cert.Kernel6.Gen.frame m ρ, fun m ρ _ => Cert.Kernel6Ideal.Gen.frame m ρ,
  reference6,
  fun m ρ _ => Cert.Kernel7.Gen.frame m ρ, fun m ρ _ => Cert.Kernel7Ideal.Gen.frame m ρ,
  reference7,
  trivial, Cert.EvenProj.algebraic,
  trivial, Cert.OddProj.algebraic,
  trivial, Cert.OutProj.Even.algebraic,
  trivial, Cert.OutProj.Odd.algebraic,
  trivial, Cert.GlaStep.algebraic,
  trivial, Cert.GdnStep.algebraic,
  trivial, Cert.SsdStep.algebraic⟩

end Cert.Proof

end
